-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_on [hKernelIdeal : Cert.KernelIdeal.Facts] [hReferenceIdeal : Cert.ReferenceIdeal.Facts] [hOn_on : Cert.On_on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_on.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_on.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_on : Cert.On_on.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_on (hKernelIdeal := hKernelIdeal) (hReferenceIdeal := hReferenceIdeal) (hOn_on := hOn_on)
-- ==== On_on.lean ====
abbrev S1024x16384 : Shape := ⟨2, ![1024, 16384]⟩
abbrev S1024x32 : Shape := ⟨2, ![1024, 32]⟩
abbrev S1x31x32 : Shape := ⟨3, ![1, 31, 32]⟩
abbrev S1024x31 : Shape := ⟨2, ![1024, 31]⟩
abbrev S1024x31x1 : Shape := ⟨3, ![1024, 31, 1]⟩
abbrev S1024x31x32 : Shape := ⟨3, ![1024, 31, 32]⟩
abbrev S_ : Shape := ⟨0, ![]⟩
abbrev S1024x2x64x128x1 : Shape := ⟨5, ![1024, 2, 64, 128, 1]⟩
abbrev S1024x1x1x1x32 : Shape := ⟨5, ![1024, 1, 1, 1, 32]⟩
abbrev S1024x2x64x128x32 : Shape := ⟨5, ![1024, 2, 64, 128, 32]⟩
abbrev S1024x2x128x32 : Shape := ⟨4, ![1024, 2, 128, 32]⟩

class Facts : Prop where
  slices_S1024x16384_S1024x32_0_0 : S1024x16384.Slices ![0, 0] S1024x32
  slices_S1024x32_S1024x31_0_0 : S1024x32.Slices ![0, 0] S1024x31
  slices_S1024x32_S1024x31_0_1 : S1024x32.Slices ![0, 1] S1024x31
  shapeCasts_S1024x31_S1024x31x1 : S1024x31.ShapeCasts S1024x31x1
  bcast_S1024x31x1_S1024x31x32_0_1_2 : S1024x31x1.BroadcastsInDim S1024x31x32 (![0, 1, 2] : Fin 3 → Fin S1024x31x32.rank)
  bcast_S1x31x32_S1024x31x32_0_1_2 : S1x31x32.BroadcastsInDim S1024x31x32 (![0, 1, 2] : Fin 3 → Fin S1024x31x32.rank)
  reducesTo_S1024x31x32_S1024x32_d1 : S1024x31x32.ReducesTo [1] S1024x32
  h_S_ : 0 < S_.numel
  shapeCasts_S1024x16384_S1024x2x64x128x1 : S1024x16384.ShapeCasts S1024x2x64x128x1
  shapeCasts_S1024x32_S1024x1x1x1x32 : S1024x32.ShapeCasts S1024x1x1x1x32
  bcast_S1024x2x64x128x1_S1024x2x64x128x32_0_1_2_3_4 : S1024x2x64x128x1.BroadcastsInDim S1024x2x64x128x32 (![0, 1, 2, 3, 4] : Fin 5 → Fin S1024x2x64x128x32.rank)
  bcast_S1024x1x1x1x32_S1024x2x64x128x32_0_1_2_3_4 : S1024x1x1x1x32.BroadcastsInDim S1024x2x64x128x32 (![0, 1, 2, 3, 4] : Fin 5 → Fin S1024x2x64x128x32.rank)
  natLt_1_32 : 1 < 32
  reducesTo_S1024x2x64x128x32_S1024x2x128x32_d2 : S1024x2x64x128x32.ReducesTo [2] S1024x2x128x32
  bcast_S_S1024x2x128x32 : S_.BroadcastsInDim S1024x2x128x32 (![] : Fin 0 → Fin S1024x2x128x32.rank)
  reducesTo_S1024x2x128x32_S1024x32_d1_2 : S1024x2x128x32.ReducesTo [1, 2] S1024x32
  bcast_S_S1024x32 : S_.BroadcastsInDim S1024x32 (![] : Fin 0 → Fin S1024x32.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x16384 .f32) : FVec F S1024x16384 .f32 :=
  let v0 : FVec F S1024x16384 .f32 := (fun x => Host.sort S1024x16384 1 comparator_f32_d1 x) arg0
  v0

def fn_part1 {F : FTy → Type} [FloatOps F] (main_v3 : FVec F S1024x32 .f32) (main_v14 : IVec S1024x32 1) (main_v15 : FVec F S1024x2x64x128x1 .f32) (main_v16 : FVec F S1024x1x1x1x32 .f32) (main_v21 : IVec S1024x2x128x32 32) : IVec S1024x32 1 :=
  let main_v22 : FVec F S1024x2x64x128x32 .f32 := broadcastInDim S1024x2x64x128x32 ![0, 1, 2, 3, 4] bcast_S1024x2x64x128x1_S1024x2x64x128x32_0_1_2_3_4 main_v15
  let main_v23 : FVec F S1024x2x64x128x32 .f32 := broadcastInDim S1024x2x64x128x32 ![0, 1, 2, 3, 4] bcast_S1024x1x1x1x32_S1024x2x64x128x32_0_1_2_3_4 main_v16
  let main_v24 : IVec S1024x2x64x128x32 1 := cmpf .oeq main_v22 main_v23
  let main_c_1 : IVec S_ 1 := constantI S_ 1 0#1
  let main_v25 : IVec S1024x2x128x32 1 := (fun x v => Host.reduce IntOp.ori x v reducesTo_S1024x2x64x128x32_S1024x2x128x32_d2 h_S_) main_v24 main_c_1
  let main_c_2 : IVec S_ 32 := constantI S_ 32 7#32
  let main_v26 : IVec S1024x2x128x32 32 := broadcastInDim S1024x2x128x32 ![] bcast_S_S1024x2x128x32 main_c_2
  let main_v27 : IVec S1024x2x128x32 1 := cmpi .sle main_v21 main_v26
  let main_c_3 : IVec S_ 1 := constantI S_ 1 1#1
  let main_v28 : IVec S1024x32 1 := (fun x v => Host.reduce IntOp.andi x v reducesTo_S1024x2x128x32_S1024x32_d1_2 h_S_) main_v27 main_c_3
  let main_c_4 : IVec S_ 32 := constantI S_ 32 7#32
  let main_v29 : IVec S1024x2x128x32 32 := broadcastInDim S1024x2x128x32 ![] bcast_S_S1024x2x128x32 main_c_4
  let main_v30 : IVec S1024x2x128x32 1 := cmpi .slt main_v21 main_v29
  let main_v31 : IVec S1024x2x128x32 1 := andi main_v25 main_v30
  let main_c_5 : IVec S_ 1 := constantI S_ 1 0#1
  let main_v32 : IVec S1024x32 1 := (fun x v => Host.reduce IntOp.ori x v reducesTo_S1024x2x128x32_S1024x32_d1_2 h_S_) main_v31 main_c_5
  let main_v33 : IVec S1024x32 1 := andi main_v28 main_v32
  let main_v34 : IVec S1024x32 1 := andi main_v14 main_v33
  let main_cst : FVec F S_ .f32 := constant S_ .f32 0xFF800000#32
  let main_v35 : FVec F S1024x32 .f32 := broadcastInDim S1024x32 ![] bcast_S_S1024x32 main_cst
  let main_v36 : IVec S1024x32 1 := cmpf .oeq main_v3 main_v35
  let main_v37 : IVec S1024x32 1 := ori main_v34 main_v36
  main_v37

def fn {F : FTy → Type} [FloatOps F] (main_arg0 : FVec F S1024x16384 .f32) : IVec S1024x32 1 :=
  let main_v0 : FVec F S1024x16384 .f32 := Host.negf main_arg0
  let main_v1 : FVec F S1024x16384 .f32 := fn_sort (F := F) main_v0
  let main_v2 : FVec F S1024x32 .f32 := (extractStridedSlice S1024x32 ![0, 0] · slices_S1024x16384_S1024x32_0_0) main_v1
  let main_v3 : FVec F S1024x32 .f32 := Host.negf main_v2
  let main_v4 : IVec S1x31x32 32 := iotaInDim S1x31x32 32 1
  let main_v5 : IVec S1x31x32 32 := iotaInDim S1x31x32 32 2
  let main_v6 : IVec S1x31x32 1 := cmpi .sge main_v4 main_v5
  let main_v7 : FVec F S1024x31 .f32 := (extractStridedSlice S1024x31 ![0, 0] · slices_S1024x32_S1024x31_0_0) main_v3
  let main_v8 : FVec F S1024x31 .f32 := (extractStridedSlice S1024x31 ![0, 1] · slices_S1024x32_S1024x31_0_1) main_v3
  let main_v9 : IVec S1024x31 1 := cmpf .ogt main_v7 main_v8
  let main_v10 : IVec S1024x31x1 1 := shapeCast S1024x31x1 main_v9 shapeCasts_S1024x31_S1024x31x1
  let main_v11 : IVec S1024x31x32 1 := broadcastInDim S1024x31x32 ![0, 1, 2] bcast_S1024x31x1_S1024x31x32_0_1_2 main_v10
  let main_v12 : IVec S1024x31x32 1 := broadcastInDim S1024x31x32 ![0, 1, 2] bcast_S1x31x32_S1024x31x32_0_1_2 main_v6
  let main_v13 : IVec S1024x31x32 1 := ori main_v11 main_v12
  let main_c : IVec S_ 1 := constantI S_ 1 1#1
  let main_v14 : IVec S1024x32 1 := (fun x v => Host.reduce IntOp.andi x v reducesTo_S1024x31x32_S1024x32_d1 h_S_) main_v13 main_c
  let main_v15 : FVec F S1024x2x64x128x1 .f32 := shapeCast S1024x2x64x128x1 main_arg0 shapeCasts_S1024x16384_S1024x2x64x128x1
  let main_v16 : FVec F S1024x1x1x1x32 .f32 := shapeCast S1024x1x1x1x32 main_v3 shapeCasts_S1024x32_S1024x1x1x1x32
  let main_v17 : FVec F S1024x2x64x128x32 .f32 := broadcastInDim S1024x2x64x128x32 ![0, 1, 2, 3, 4] bcast_S1024x2x64x128x1_S1024x2x64x128x32_0_1_2_3_4 main_v15
  let main_v18 : FVec F S1024x2x64x128x32 .f32 := broadcastInDim S1024x2x64x128x32 ![0, 1, 2, 3, 4] bcast_S1024x1x1x1x32_S1024x2x64x128x32_0_1_2_3_4 main_v16
  let main_v19 : IVec S1024x2x64x128x32 1 := cmpf .ogt main_v17 main_v18
  let main_v20 : IVec S1024x2x64x128x32 32 := (extui 32 · natLt_1_32) main_v19
  let main_c_0 : IVec S_ 32 := constantI S_ 32 0#32
  let main_v21 : IVec S1024x2x128x32 32 := (fun x v => Host.reduce IntOp.addi x v reducesTo_S1024x2x64x128x32_S1024x2x128x32_d2 h_S_) main_v20 main_c_0
  fn_part1 (F := F) main_v3 main_v14 main_v15 main_v16 main_v21
-- ==== Kernel.lean ====
abbrev S1024x8192 : Shape := ⟨2, ![1024, 8192]⟩
abbrev S1024x32 : Shape := ⟨2, ![1024, 32]⟩
abbrev S128x8192 : Shape := ⟨2, ![128, 8192]⟩
abbrev S2x128x32 : Shape := ⟨3, ![2, 128, 32]⟩
abbrev S_ : Shape := ⟨0, ![]⟩
abbrev S8 : Shape := ⟨1, ![8]⟩
abbrev S128x4096 : Shape := ⟨2, ![128, 4096]⟩
abbrev S128x2048 : Shape := ⟨2, ![128, 2048]⟩
abbrev S128x1024 : Shape := ⟨2, ![128, 1024]⟩
abbrev S128x512 : Shape := ⟨2, ![128, 512]⟩
abbrev S128x256 : Shape := ⟨2, ![128, 256]⟩
abbrev S128x128 : Shape := ⟨2, ![128, 128]⟩
abbrev S128x32 : Shape := ⟨2, ![128, 32]⟩
abbrev S128 : Shape := ⟨1, ![128]⟩
abbrev S128x1 : Shape := ⟨2, ![128, 1]⟩
abbrev S1x128x32 : Shape := ⟨3, ![1, 128, 32]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S128x8192, .f32⟩
  | .local _ .vmem, ⟨2, _⟩ => ⟨S2x128x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32 : BitVec 32 := 128#32
  let v12 : BitVec 32 := Scalar.muli v10 c128_i32
  let c0_i32 : BitVec 32 := 0#32
  ![v12.toNat, 0]
def k0_dev1 (d0 : Dev nD) : Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v15 : BitVec 32 := Scalar.muli v2 c8_i32_5
  let v16 : BitVec 32 := Scalar.addi c0_i32_6 v15
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c4_i32_7 : BitVec 32 := 4#32
  let v17 : BitVec 32 := Scalar.muli v11 c4_i32_7
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v19 : BitVec 32 := Scalar.muli v8 c1_i32_8
  let v20 : BitVec 32 := Scalar.addi v18 v19
  v20.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_9 : BitVec 32 := 0#32
  let v21 : BitVec 1 := Scalar.cmpi .ne v10 c0_i32_9
  let v22 : BitVec 32 := Scalar.extui v21
  let c0_i32_10 : BitVec 32 := 0#32
  let v23 : BitVec 1 := Scalar.cmpi .ne v22 c0_i32_10
  v23

def k0_dev2 (d0 : Dev nD) : Nat :=
  let c0_i32_728 : BitVec 32 := 0#32
  let c0_i32_725 : BitVec 32 := 0#32
  let c8_i32_727 : BitVec 32 := 8#32
  let v2543 : BitVec 32 := Scalar.muli c0_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c0_i32_726 : BitVec 32 := 0#32
  let c1_i32_730 : BitVec 32 := 1#32
  let v2547 : BitVec 32 := Scalar.muli c0_i32_726 c1_i32_730
  let v2548 : BitVec 32 := Scalar.addi v2546 v2547
  v2548.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_11 : BitVec 32 := 1#32
  let v24 : BitVec 1 := Scalar.cmpi .ne v10 c1_i32_11
  let v25 : BitVec 32 := Scalar.extui v24
  let c0_i32_12 : BitVec 32 := 0#32
  let v26 : BitVec 1 := Scalar.cmpi .ne v25 c0_i32_12
  v26

def k0_dev3 (d0 : Dev nD) : Nat :=
  let c0_i32_728 : BitVec 32 := 0#32
  let c0_i32_725 : BitVec 32 := 0#32
  let c8_i32_727 : BitVec 32 := 8#32
  let v2543 : BitVec 32 := Scalar.muli c0_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c1_i32_726 : BitVec 32 := 1#32
  let c1_i32_730 : BitVec 32 := 1#32
  let v2547 : BitVec 32 := Scalar.muli c1_i32_726 c1_i32_730
  let v2548 : BitVec 32 := Scalar.addi v2546 v2547
  v2548.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_13 : BitVec 32 := 2#32
  let v27 : BitVec 1 := Scalar.cmpi .ne v10 c2_i32_13
  let v28 : BitVec 32 := Scalar.extui v27
  let c0_i32_14 : BitVec 32 := 0#32
  let v29 : BitVec 1 := Scalar.cmpi .ne v28 c0_i32_14
  v29

def k0_dev4 (d0 : Dev nD) : Nat :=
  let c0_i32_728 : BitVec 32 := 0#32
  let c0_i32_725 : BitVec 32 := 0#32
  let c8_i32_727 : BitVec 32 := 8#32
  let v2543 : BitVec 32 := Scalar.muli c0_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c2_i32_726 : BitVec 32 := 2#32
  let c1_i32_730 : BitVec 32 := 1#32
  let v2547 : BitVec 32 := Scalar.muli c2_i32_726 c1_i32_730
  let v2548 : BitVec 32 := Scalar.addi v2546 v2547
  v2548.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32 : BitVec 32 := 3#32
  let v30 : BitVec 1 := Scalar.cmpi .ne v10 c3_i32
  let v31 : BitVec 32 := Scalar.extui v30
  let c0_i32_15 : BitVec 32 := 0#32
  let v32 : BitVec 1 := Scalar.cmpi .ne v31 c0_i32_15
  v32

def k0_dev5 (d0 : Dev nD) : Nat :=
  let c0_i32_728 : BitVec 32 := 0#32
  let c0_i32_725 : BitVec 32 := 0#32
  let c8_i32_727 : BitVec 32 := 8#32
  let v2543 : BitVec 32 := Scalar.muli c0_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c3_i32_726 : BitVec 32 := 3#32
  let c1_i32_730 : BitVec 32 := 1#32
  let v2547 : BitVec 32 := Scalar.muli c3_i32_726 c1_i32_730
  let v2548 : BitVec 32 := Scalar.addi v2546 v2547
  v2548.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_16 : BitVec 32 := 4#32
  let v33 : BitVec 1 := Scalar.cmpi .ne v10 c4_i32_16
  let v34 : BitVec 32 := Scalar.extui v33
  let c0_i32_17 : BitVec 32 := 0#32
  let v35 : BitVec 1 := Scalar.cmpi .ne v34 c0_i32_17
  v35

def k0_dev6 (d0 : Dev nD) : Nat :=
  let c0_i32_728 : BitVec 32 := 0#32
  let c1_i32_725 : BitVec 32 := 1#32
  let c8_i32_727 : BitVec 32 := 8#32
  let v2543 : BitVec 32 := Scalar.muli c1_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c0_i32_726 : BitVec 32 := 0#32
  let c1_i32_730 : BitVec 32 := 1#32
  let v2547 : BitVec 32 := Scalar.muli c0_i32_726 c1_i32_730
  let v2548 : BitVec 32 := Scalar.addi v2546 v2547
  v2548.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32 : BitVec 32 := 5#32
  let v36 : BitVec 1 := Scalar.cmpi .ne v10 c5_i32
  let v37 : BitVec 32 := Scalar.extui v36
  let c0_i32_18 : BitVec 32 := 0#32
  let v38 : BitVec 1 := Scalar.cmpi .ne v37 c0_i32_18
  v38

def k0_dev7 (d0 : Dev nD) : Nat :=
  let c0_i32_728 : BitVec 32 := 0#32
  let c1_i32_725 : BitVec 32 := 1#32
  let c8_i32_727 : BitVec 32 := 8#32
  let v2543 : BitVec 32 := Scalar.muli c1_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c1_i32_726 : BitVec 32 := 1#32
  let c1_i32_730 : BitVec 32 := 1#32
  let v2547 : BitVec 32 := Scalar.muli c1_i32_726 c1_i32_730
  let v2548 : BitVec 32 := Scalar.addi v2546 v2547
  v2548.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32 : BitVec 32 := 6#32
  let v39 : BitVec 1 := Scalar.cmpi .ne v10 c6_i32
  let v40 : BitVec 32 := Scalar.extui v39
  let c0_i32_19 : BitVec 32 := 0#32
  let v41 : BitVec 1 := Scalar.cmpi .ne v40 c0_i32_19
  v41

def k0_dev8 (d0 : Dev nD) : Nat :=
  let c0_i32_728 : BitVec 32 := 0#32
  let c1_i32_725 : BitVec 32 := 1#32
  let c8_i32_727 : BitVec 32 := 8#32
  let v2543 : BitVec 32 := Scalar.muli c1_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c2_i32_726 : BitVec 32 := 2#32
  let c1_i32_730 : BitVec 32 := 1#32
  let v2547 : BitVec 32 := Scalar.muli c2_i32_726 c1_i32_730
  let v2548 : BitVec 32 := Scalar.addi v2546 v2547
  v2548.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32 : BitVec 32 := 7#32
  let v42 : BitVec 1 := Scalar.cmpi .ne v10 c7_i32
  let v43 : BitVec 32 := Scalar.extui v42
  let c0_i32_20 : BitVec 32 := 0#32
  let v44 : BitVec 1 := Scalar.cmpi .ne v43 c0_i32_20
  v44

def k0_dev9 (d0 : Dev nD) : Nat :=
  let c0_i32_728 : BitVec 32 := 0#32
  let c1_i32_725 : BitVec 32 := 1#32
  let c8_i32_727 : BitVec 32 := 8#32
  let v2543 : BitVec 32 := Scalar.muli c1_i32_725 c8_i32_727
  let v2544 : BitVec 32 := Scalar.addi c0_i32_728 v2543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v2545 : BitVec 32 := Scalar.muli v5 c4_i32_729
  let v2546 : BitVec 32 := Scalar.addi v2544 v2545
  let c3_i32_726 : BitVec 32 := 3#32
  let c1_i32_730 : BitVec 32 := 1#32
  let v2547 : BitVec 32 := Scalar.muli c3_i32_726 c1_i32_730
  let v2548 : BitVec 32 := Scalar.addi v2546 v2547
  v2548.toNat
def k0_dev10 (d0 : Dev nD) : Nat :=
  let c0_i32_486 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_485 : BitVec 32 := 8#32
  let v1870 : BitVec 32 := Scalar.muli v2 c8_i32_485
  let v1871 : BitVec 32 := Scalar.addi c0_i32_486 v1870
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c4_i32_487 : BitVec 32 := 4#32
  let v1872 : BitVec 32 := Scalar.muli v11 c4_i32_487
  let v1873 : BitVec 32 := Scalar.addi v1871 v1872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v1874 : BitVec 32 := Scalar.muli v8 c1_i32_488
  let v1875 : BitVec 32 := Scalar.addi v1873 v1874
  v1875.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_674 : BitVec 32 := 128#32
  let v2468 : BitVec 32 := Scalar.muli v10 c128_i32_674
  let v2469 : Index := Scalar.indexCast v2468
  let c0_675 : Index := 0#32
  ![v2469.toNat, 0]
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_676 : BitVec 32 := 0#32
  let v2471 : BitVec 1 := Scalar.cmpi .ne v10 c0_i32_676
  let v2472 : BitVec 32 := Scalar.extui v2471
  let c0_i32_677 : BitVec 32 := 0#32
  let v2473 : BitVec 1 := Scalar.cmpi .ne v2472 c0_i32_677
  v2473

def k0_off3 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev11 (d0 : Dev nD) : Nat :=
  let c0_i32_730 : BitVec 32 := 0#32
  let c0_i32_727 : BitVec 32 := 0#32
  let c8_i32_729 : BitVec 32 := 8#32
  let v2545 : BitVec 32 := Scalar.muli c0_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c0_i32_728 : BitVec 32 := 0#32
  let c1_i32_732 : BitVec 32 := 1#32
  let v2549 : BitVec 32 := Scalar.muli c0_i32_728 c1_i32_732
  let v2550 : BitVec 32 := Scalar.addi v2548 v2549
  v2550.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_678 : BitVec 32 := 1#32
  let v2474 : BitVec 1 := Scalar.cmpi .ne v10 c1_i32_678
  let v2475 : BitVec 32 := Scalar.extui v2474
  let c0_i32_679 : BitVec 32 := 0#32
  let v2476 : BitVec 1 := Scalar.cmpi .ne v2475 c0_i32_679
  v2476

def k0_off5 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off6 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev12 (d0 : Dev nD) : Nat :=
  let c0_i32_730 : BitVec 32 := 0#32
  let c0_i32_727 : BitVec 32 := 0#32
  let c8_i32_729 : BitVec 32 := 8#32
  let v2545 : BitVec 32 := Scalar.muli c0_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c1_i32_728 : BitVec 32 := 1#32
  let c1_i32_732 : BitVec 32 := 1#32
  let v2549 : BitVec 32 := Scalar.muli c1_i32_728 c1_i32_732
  let v2550 : BitVec 32 := Scalar.addi v2548 v2549
  v2550.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_680 : BitVec 32 := 2#32
  let v2477 : BitVec 1 := Scalar.cmpi .ne v10 c2_i32_680
  let v2478 : BitVec 32 := Scalar.extui v2477
  let c0_i32_681 : BitVec 32 := 0#32
  let v2479 : BitVec 1 := Scalar.cmpi .ne v2478 c0_i32_681
  v2479

def k0_off7 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off8 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev13 (d0 : Dev nD) : Nat :=
  let c0_i32_730 : BitVec 32 := 0#32
  let c0_i32_727 : BitVec 32 := 0#32
  let c8_i32_729 : BitVec 32 := 8#32
  let v2545 : BitVec 32 := Scalar.muli c0_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c2_i32_728 : BitVec 32 := 2#32
  let c1_i32_732 : BitVec 32 := 1#32
  let v2549 : BitVec 32 := Scalar.muli c2_i32_728 c1_i32_732
  let v2550 : BitVec 32 := Scalar.addi v2548 v2549
  v2550.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_682 : BitVec 32 := 3#32
  let v2480 : BitVec 1 := Scalar.cmpi .ne v10 c3_i32_682
  let v2481 : BitVec 32 := Scalar.extui v2480
  let c0_i32_683 : BitVec 32 := 0#32
  let v2482 : BitVec 1 := Scalar.cmpi .ne v2481 c0_i32_683
  v2482

def k0_off9 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off10 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev14 (d0 : Dev nD) : Nat :=
  let c0_i32_730 : BitVec 32 := 0#32
  let c0_i32_727 : BitVec 32 := 0#32
  let c8_i32_729 : BitVec 32 := 8#32
  let v2545 : BitVec 32 := Scalar.muli c0_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c3_i32_728 : BitVec 32 := 3#32
  let c1_i32_732 : BitVec 32 := 1#32
  let v2549 : BitVec 32 := Scalar.muli c3_i32_728 c1_i32_732
  let v2550 : BitVec 32 := Scalar.addi v2548 v2549
  v2550.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_684 : BitVec 32 := 4#32
  let v2483 : BitVec 1 := Scalar.cmpi .ne v10 c4_i32_684
  let v2484 : BitVec 32 := Scalar.extui v2483
  let c0_i32_685 : BitVec 32 := 0#32
  let v2485 : BitVec 1 := Scalar.cmpi .ne v2484 c0_i32_685
  v2485

def k0_off11 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off12 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev15 (d0 : Dev nD) : Nat :=
  let c0_i32_730 : BitVec 32 := 0#32
  let c1_i32_727 : BitVec 32 := 1#32
  let c8_i32_729 : BitVec 32 := 8#32
  let v2545 : BitVec 32 := Scalar.muli c1_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c0_i32_728 : BitVec 32 := 0#32
  let c1_i32_732 : BitVec 32 := 1#32
  let v2549 : BitVec 32 := Scalar.muli c0_i32_728 c1_i32_732
  let v2550 : BitVec 32 := Scalar.addi v2548 v2549
  v2550.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_686 : BitVec 32 := 5#32
  let v2486 : BitVec 1 := Scalar.cmpi .ne v10 c5_i32_686
  let v2487 : BitVec 32 := Scalar.extui v2486
  let c0_i32_687 : BitVec 32 := 0#32
  let v2488 : BitVec 1 := Scalar.cmpi .ne v2487 c0_i32_687
  v2488

def k0_off13 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off14 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev16 (d0 : Dev nD) : Nat :=
  let c0_i32_730 : BitVec 32 := 0#32
  let c1_i32_727 : BitVec 32 := 1#32
  let c8_i32_729 : BitVec 32 := 8#32
  let v2545 : BitVec 32 := Scalar.muli c1_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c1_i32_728 : BitVec 32 := 1#32
  let c1_i32_732 : BitVec 32 := 1#32
  let v2549 : BitVec 32 := Scalar.muli c1_i32_728 c1_i32_732
  let v2550 : BitVec 32 := Scalar.addi v2548 v2549
  v2550.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_688 : BitVec 32 := 6#32
  let v2489 : BitVec 1 := Scalar.cmpi .ne v10 c6_i32_688
  let v2490 : BitVec 32 := Scalar.extui v2489
  let c0_i32_689 : BitVec 32 := 0#32
  let v2491 : BitVec 1 := Scalar.cmpi .ne v2490 c0_i32_689
  v2491

def k0_off15 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off16 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev17 (d0 : Dev nD) : Nat :=
  let c0_i32_730 : BitVec 32 := 0#32
  let c1_i32_727 : BitVec 32 := 1#32
  let c8_i32_729 : BitVec 32 := 8#32
  let v2545 : BitVec 32 := Scalar.muli c1_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c2_i32_728 : BitVec 32 := 2#32
  let c1_i32_732 : BitVec 32 := 1#32
  let v2549 : BitVec 32 := Scalar.muli c2_i32_728 c1_i32_732
  let v2550 : BitVec 32 := Scalar.addi v2548 v2549
  v2550.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_690 : BitVec 32 := 7#32
  let v2492 : BitVec 1 := Scalar.cmpi .ne v10 c7_i32_690
  let v2493 : BitVec 32 := Scalar.extui v2492
  let c0_i32_691 : BitVec 32 := 0#32
  let v2494 : BitVec 1 := Scalar.cmpi .ne v2493 c0_i32_691
  v2494

def k0_off17 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off18 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_725 : BitVec 32 := 128#32
  let v2544 : BitVec 32 := Scalar.muli v10 c128_i32_725
  let c0_i32_733 : BitVec 32 := 0#32
  ![v2544.toNat, 0]
def k0_dev18 (d0 : Dev nD) : Nat :=
  let c0_i32_730 : BitVec 32 := 0#32
  let c1_i32_727 : BitVec 32 := 1#32
  let c8_i32_729 : BitVec 32 := 8#32
  let v2545 : BitVec 32 := Scalar.muli c1_i32_727 c8_i32_729
  let v2546 : BitVec 32 := Scalar.addi c0_i32_730 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_731 : BitVec 32 := 4#32
  let v2547 : BitVec 32 := Scalar.muli v5 c4_i32_731
  let v2548 : BitVec 32 := Scalar.addi v2546 v2547
  let c3_i32_728 : BitVec 32 := 3#32
  let c1_i32_732 : BitVec 32 := 1#32
  let v2549 : BitVec 32 := Scalar.muli c3_i32_728 c1_i32_732
  let v2550 : BitVec 32 := Scalar.addi v2548 v2549
  v2550.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_708 : BitVec 32 := 0#32
  let v2519 : BitVec 1 := Scalar.cmpi .ne v10 c0_i32_708
  let v2520 : BitVec 32 := Scalar.extui v2519
  let c0_i32_709 : BitVec 32 := 0#32
  let v2521 : BitVec 1 := Scalar.cmpi .ne v2520 c0_i32_709
  v2521

def k0_off19 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_710 : BitVec 32 := 1#32
  let v2522 : BitVec 1 := Scalar.cmpi .ne v10 c1_i32_710
  let v2523 : BitVec 32 := Scalar.extui v2522
  let c0_i32_711 : BitVec 32 := 0#32
  let v2524 : BitVec 1 := Scalar.cmpi .ne v2523 c0_i32_711
  v2524

def k0_off20 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_712 : BitVec 32 := 2#32
  let v2525 : BitVec 1 := Scalar.cmpi .ne v10 c2_i32_712
  let v2526 : BitVec 32 := Scalar.extui v2525
  let c0_i32_713 : BitVec 32 := 0#32
  let v2527 : BitVec 1 := Scalar.cmpi .ne v2526 c0_i32_713
  v2527

def k0_off21 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_714 : BitVec 32 := 3#32
  let v2528 : BitVec 1 := Scalar.cmpi .ne v10 c3_i32_714
  let v2529 : BitVec 32 := Scalar.extui v2528
  let c0_i32_715 : BitVec 32 := 0#32
  let v2530 : BitVec 1 := Scalar.cmpi .ne v2529 c0_i32_715
  v2530

def k0_off22 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_716 : BitVec 32 := 4#32
  let v2531 : BitVec 1 := Scalar.cmpi .ne v10 c4_i32_716
  let v2532 : BitVec 32 := Scalar.extui v2531
  let c0_i32_717 : BitVec 32 := 0#32
  let v2533 : BitVec 1 := Scalar.cmpi .ne v2532 c0_i32_717
  v2533

def k0_off23 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_718 : BitVec 32 := 5#32
  let v2534 : BitVec 1 := Scalar.cmpi .ne v10 c5_i32_718
  let v2535 : BitVec 32 := Scalar.extui v2534
  let c0_i32_719 : BitVec 32 := 0#32
  let v2536 : BitVec 1 := Scalar.cmpi .ne v2535 c0_i32_719
  v2536

def k0_off24 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_720 : BitVec 32 := 6#32
  let v2537 : BitVec 1 := Scalar.cmpi .ne v10 c6_i32_720
  let v2538 : BitVec 32 := Scalar.extui v2537
  let c0_i32_721 : BitVec 32 := 0#32
  let v2539 : BitVec 1 := Scalar.cmpi .ne v2538 c0_i32_721
  v2539

def k0_off25 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_722 : BitVec 32 := 7#32
  let v2540 : BitVec 1 := Scalar.cmpi .ne v10 c7_i32_722
  let v2541 : BitVec 32 := Scalar.extui v2540
  let c0_i32_723 : BitVec 32 := 0#32
  let v2542 : BitVec 1 := Scalar.cmpi .ne v2541 c0_i32_723
  v2542

def k0_off26 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c128_i32_724 : BitVec 32 := 128#32
  let v2543 : BitVec 32 := Scalar.muli v10 c128_i32_724
  let c0_i32_730 : BitVec 32 := 0#32
  ![v2543.toNat, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Top.lean ====
module

public import proofs.«01_k».proof.Proof.Gen.KernelIdeal.Skeleton

/-!
# The two selections the kernel body computes

`chunkTop v` is the candidate list of a block of 128 rows by 8192 columns: seven times the maximum of every
lane class (columns equal mod 128) is taken and its occurrences are wiped to minus infinity; then, 32 times, the
greatest entry of a row among the seven arrays is written to the next column and its occurrences are wiped.
`merge w0 w1` is the same 32-step selection out of two lists of 32.
-/

@[expose] public section

noncomputable section

namespace Cert.KernelIdeal.Top

open Idealize.ShloMosaic Idealize.SL.Sem
open Cert.KernelIdeal.Gen

variable {F : FTy → Type} [FloatOps F]

/-- Minus infinity. -/
def ninf : F .f32 := Scalar.ofBits .f32 0xFF800000#32

/-- The column number of every entry of a list. -/
def cols : IVec S128x32 32 := iota .tc S128x32 32 [1] iota_S128x32_d1_w32

/-! ### The lane maxima -/

def h4096 (v : FVec F S128x8192 .f32) : FVec F S128x4096 .f32 :=
  maximumf (extractStridedSlice S128x4096 ![0, 0] v slices_S128x8192_o0_0_S128x4096) (extractStridedSlice S128x4096 ![0, 4096] v slices_S128x8192_o0_4096_S128x4096)
def h2048 (v : FVec F S128x8192 .f32) : FVec F S128x2048 .f32 :=
  maximumf (extractStridedSlice S128x2048 ![0, 0] (h4096 v) slices_S128x4096_o0_0_S128x2048) (extractStridedSlice S128x2048 ![0, 2048] (h4096 v) slices_S128x4096_o0_2048_S128x2048)
def h1024 (v : FVec F S128x8192 .f32) : FVec F S128x1024 .f32 :=
  maximumf (extractStridedSlice S128x1024 ![0, 0] (h2048 v) slices_S128x2048_o0_0_S128x1024) (extractStridedSlice S128x1024 ![0, 1024] (h2048 v) slices_S128x2048_o0_1024_S128x1024)
def h512 (v : FVec F S128x8192 .f32) : FVec F S128x512 .f32 :=
  maximumf (extractStridedSlice S128x512 ![0, 0] (h1024 v) slices_S128x1024_o0_0_S128x512) (extractStridedSlice S128x512 ![0, 512] (h1024 v) slices_S128x1024_o0_512_S128x512)
def h256 (v : FVec F S128x8192 .f32) : FVec F S128x256 .f32 :=
  maximumf (extractStridedSlice S128x256 ![0, 0] (h512 v) slices_S128x512_o0_0_S128x256) (extractStridedSlice S128x256 ![0, 256] (h512 v) slices_S128x512_o0_256_S128x256)
/-- The maximum of every lane class, by halving. -/
def tree (v : FVec F S128x8192 .f32) : FVec F S128x128 .f32 :=
  maximumf (extractStridedSlice S128x128 ![0, 0] (h256 v) slices_S128x256_o0_0_S128x128) (extractStridedSlice S128x128 ![0, 128] (h256 v) slices_S128x256_o0_128_S128x128)

/-- A row of 128 repeated 64 times. -/
def cat64 (a : FVec F S128x128 .f32) : FVec F S128x8192 .f32 :=
  concatenate S128x8192 1 (⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: ⟨S128x128, a⟩ :: []) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x8192_d1

/-- The rows with the occurrences of the first `t` lane maxima wiped. -/
def strip (v : FVec F S128x8192 .f32) : ℕ → FVec F S128x8192 .f32
  | 0 => v
  | t + 1 => select (cmpf .oeq (strip v t) (cat64 (tree (strip v t)))) (broadcast S128x8192 ninf) (strip v t)

/-- The `t`-th candidate array: the lane maxima left after `t` wipes. -/
def cand (v : FVec F S128x8192 .f32) (t : ℕ) : FVec F S128x128 .f32 := tree (strip v t)

/-! ### Writing one column -/

/-- Column `i` of the list `o` becomes `m`. -/
def put (i : ℕ) (m : FVec F S128x1 .f32) (o : FVec F S128x32 .f32) : FVec F S128x32 .f32 :=
  select (cmpi .eq cols (broadcast S128x32 (BitVec.ofNat 32 i))) (broadcastTo S128x32 (shapeCast S128x1 m shapeCasts_S128x1_S128x1) broadcasts_S128x1_S128x32) o

/-! ### Selecting out of the seven candidate arrays -/

def rowMaxA (a : FVec F S128x128 .f32) : FVec F S128x1 .f32 :=
  shapeCast S128x1 (multiReduction .maximumf [1] S128 a 0xFF800000#32 reduces_S128x128_S128 (.inl rfl) rfl) shapeCasts_S128_S128x1
/-- The greatest entry of every row among the seven arrays. -/
def mxA (a : ℕ → FVec F S128x128 .f32) : FVec F S128x1 .f32 :=
  maximumf (maximumf (maximumf (maximumf (maximumf (maximumf (rowMaxA (a 0)) (rowMaxA (a 1))) (rowMaxA (a 2))) (rowMaxA (a 3))) (rowMaxA (a 4))) (rowMaxA (a 5))) (rowMaxA (a 6))
/-- The occurrences of `m` wiped. -/
def wipeA (m : FVec F S128x1 .f32) (a : FVec F S128x128 .f32) : FVec F S128x128 .f32 :=
  select (cmpf .oeq a (broadcastTo S128x128 m broadcasts_S128x1_S128x128)) (broadcast S128x128 ninf) a
/-- The arrays after `i` selections. -/
def arrA (c : ℕ → FVec F S128x128 .f32) : ℕ → ℕ → FVec F S128x128 .f32
  | 0 => c
  | i + 1 => fun j => wipeA (mxA (arrA c i)) (arrA c i j)
/-- The list after `i` selections. -/
def outsA (c : ℕ → FVec F S128x128 .f32) : ℕ → FVec F S128x32 .f32
  | 0 => broadcast S128x32 ninf
  | i + 1 => put i (mxA (arrA c i)) (outsA c i)

/-- The candidate list of a block of rows. -/
def chunkTop (v : FVec F S128x8192 .f32) : FVec F S128x32 .f32 := outsA (cand v) 32

/-! ### Selecting out of two lists -/

def rowMaxB (a : FVec F S128x32 .f32) : FVec F S128x1 .f32 :=
  shapeCast S128x1 (multiReduction .maximumf [1] S128 a 0xFF800000#32 reduces_S128x32_S128 (.inl rfl) rfl) shapeCasts_S128_S128x1
def mxB (a : ℕ → FVec F S128x32 .f32) : FVec F S128x1 .f32 := maximumf (rowMaxB (a 0)) (rowMaxB (a 1))
def wipeB (m : FVec F S128x1 .f32) (a : FVec F S128x32 .f32) : FVec F S128x32 .f32 :=
  select (cmpf .oeq a (broadcastTo S128x32 m broadcasts_S128x1_S128x32)) (broadcast S128x32 ninf) a
def arrB (c : ℕ → FVec F S128x32 .f32) : ℕ → ℕ → FVec F S128x32 .f32
  | 0 => c
  | i + 1 => fun j => wipeB (mxB (arrB c i)) (arrB c i j)
def outsB (c : ℕ → FVec F S128x32 .f32) : ℕ → FVec F S128x32 .f32
  | 0 => broadcast S128x32 ninf
  | i + 1 => put i (mxB (arrB c i)) (outsB c i)

/-- The two lists as 128 rows of 32. -/
def pair (w0 w1 : Vec F S1x128x32 .f32) : ℕ → FVec F S128x32 .f32
  | 0 => shapeCast S128x32 w0 shapeCasts_S1x128x32_S128x32
  | _ + 1 => shapeCast S128x32 w1 shapeCasts_S1x128x32_S128x32

/-- The merged list of two lists. -/
def merge (w0 w1 : Vec F S1x128x32 .f32) : FVec F S128x32 .f32 := outsB (pair w0 w1) 32

end Cert.KernelIdeal.Top

end
-- ==== Proof.Mesh.lean ====
module

public import proofs.«01_k».proof.Proof.Top
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-!
# Where a device stands, and the views and semaphores it names

Device `c` of the 2 × 2 × 4 mesh belongs to one of two groups of eight; inside its group it has a place
`gi c`, and it looks after the rows of that place. Its partner stands at the same place of the other group
and holds the other half of the same rows.
-/

@[expose] public section

noncomputable section

namespace Cert.KernelIdeal.Run

open Cert.KernelIdeal Cert.KernelIdeal.Gen Cert.KernelIdeal.Top
open Idealize.ShloMosaic
open Idealize.ShloMosaic.TcCoe

/-! ## Places -/

/-- Device `c`'s place in its group. -/
def gi (c : Dev nD) : Fin 8 := ⟨4 * (c.val / 8) + c.val % 4, by have := c.isLt; simp only [nD] at this; omega⟩
/-- The device at place `p` of `c`'s group. -/
def at' (c : Dev nD) (p : Fin 8) : Dev nD :=
  ⟨4 * ((c.val / 4) % 2) + 8 * (p.val / 4) + p.val % 4, by have := c.isLt; simp only [nD] at this ⊢; omega⟩
/-- The device at `c`'s place in the other group. -/
def par (c : Dev nD) : Dev nD :=
  ⟨8 * (c.val / 8) + c.val % 4 + 4 - 4 * ((c.val / 4) % 2), by have := c.isLt; simp only [nD] at this ⊢; omega⟩

theorem gi_at (c : Dev nD) (p : Fin 8) : gi (at' c p) = p := by revert c p; decide
theorem at_at (c : Dev nD) (p q : Fin 8) : at' (at' c p) q = at' c q := by revert c p q; decide
theorem at_gi (c : Dev nD) : at' c (gi c) = c := by revert c; decide
theorem par_par (c : Dev nD) : par (par c) = c := by revert c; decide
theorem gi_par (c : Dev nD) : gi (par c) = gi c := by revert c; decide

/-- A device and a place, against the device at that place and the first one's own place. -/
def turn : Dev nD × Fin 8 ≃ Dev nD × Fin 8 where
  toFun x := (at' x.1 x.2, gi x.1)
  invFun x := (at' x.1 x.2, gi x.1)
  left_inv x := by revert x; decide
  right_inv x := by revert x; decide

/-- A device and its partner. -/
def swap : Dev nD ≃ Dev nD := ⟨par, par, par_par, par_par⟩

/-! ## The views the kernel transfers through -/

theorem rows_inb : ∀ p : Fin 8, ∀ a, (![128 * p.val, 0] : Fin 2 → ℕ) a + S128x32.size a ≤ S1024x32.size a := by decide
theorem slab_inb : ∀ k : Fin 2, ∀ a, (![k.val, 0, 0] : Fin 3 → ℕ) a + S1x128x32.size a ≤ S2x128x32.size a := by decide

abbrev oM : Memref sig .tc .vmem S1024x32 .f32 := Memref.whole cc0_stg0_0
abbrev vM : Memref sig .tc .vmem S128x8192 .f32 := Memref.whole cc0_scratch0
abbrev eM : Memref sig .tc .vmem S2x128x32 .f32 := Memref.whole cc0_scratch1
abbrev aM : Memref sig .tc .hbm S1024x8192 .f32 := Memref.whole main_arg0

/-- The rectangle of the rows of place `p` in the result. -/
abbrev rowsR (p : Fin 8) : Rect S1024x32 := Rect.unit (s := S1024x32) ![128 * p.val, 0] S128x32.size (rows_inb p)
/-- The rectangle of one of the two exchanged lists. -/
abbrev slabR (k : Fin 2) : Rect S2x128x32 := Rect.unit (s := S2x128x32) ![k.val, 0, 0] S1x128x32.size (slab_inb k)
/-- The rows of place `p` of the result. -/
abbrev rowsM (p : Fin 8) : Memref sig .tc .vmem S128x32 .f32 := oM.slice (rowsR p) (fun _ => rfl)
/-- One of the two exchanged lists. -/
abbrev slabM (k : Fin 2) : Memref sig .tc .vmem S1x128x32 .f32 := eM.slice (slabR k) (fun _ => rfl)
/-- The rows of device `c`'s place in its block of the argument. -/
abbrev xM (c : Dev nD) : Memref sig .tc .hbm S128x8192 .f32 :=
  aM.slice (Rect.unit (s := S1024x8192) (k0_off1 c) S128x8192.size (k0_off1_inb c)) (fun _ => rfl)

theorem rows_disjoint (p q : Fin 8) (h : p ≠ q) : Disjoint (rowsR p).set (rowsR q).set := by
  rw [Finset.disjoint_left]
  intro i hp hq
  rw [Rect.mem_set_unit] at hp hq
  have h1 := hp 0
  have h2 := hq 0
  simp [S128x32, Shape.size] at h1 h2
  exact h (Fin.ext (by omega))

theorem rows_cover : (Finset.univ : Finset (Fin 8)).biUnion (fun p => (rowsR p).set) = Finset.univ := by
  ext i
  simp only [Finset.mem_biUnion, Finset.mem_univ, true_and, iff_true]
  have h0 : (i 0).val < 1024 := (i 0).isLt
  have h1 : (i 1).val < 32 := (i 1).isLt
  refine ⟨⟨(i 0).val / 128, by omega⟩, ?_⟩
  rw [Rect.mem_set_unit]
  intro a
  fin_cases a
  · simp [S128x32]; omega
  · simp [S128x32]; omega

theorem slab_disjoint (p q : Fin 2) (h : p ≠ q) : Disjoint (slabR p).set (slabR q).set := by
  rw [Finset.disjoint_left]
  intro i hp hq
  rw [Rect.mem_set_unit] at hp hq
  have h1 := hp 0
  have h2 := hq 0
  simp [S1x128x32, Shape.size] at h1 h2
  exact h (Fin.ext (by omega))

theorem slab_cover : (Finset.univ : Finset (Fin 2)).biUnion (fun p => (slabR p).set) = Finset.univ := by
  ext i
  simp only [Finset.mem_biUnion, Finset.mem_univ, true_and, iff_true]
  have h0 : (i 0).val < 2 := (i 0).isLt
  have h1 : (i 1).val < 128 := (i 1).isLt
  have h2 : (i 2).val < 32 := (i 2).isLt
  refine ⟨⟨(i 0).val, by omega⟩, ?_⟩
  rw [Rect.mem_set_unit]
  intro a
  fin_cases a
  · simp [S1x128x32]
  · simp [S1x128x32]; omega
  · simp [S1x128x32]; omega

/-! ## The semaphores -/

/-- The kinds of semaphore: four single ones (the barrier, the copy's, the exchange's two), and for every place
    the one its gathering send completes on and the one its arriving rows complete on. -/
abbrev CK : Type := Fin 4 ⊕ Fin 8 ⊕ Fin 8

def sl : CK → SemLoc sig
  | .inl k => if k = 0 then .reg barrier0 else .dma ⟨k.val, by have := k.isLt; show k.val < 20; omega⟩
  | .inr (.inl p) => .dma ⟨4 + p.val, by have := p.isLt; show 4 + p.val < 20; omega⟩
  | .inr (.inr p) => .dma ⟨12 + p.val, by have := p.isLt; show 12 + p.val < 20; omega⟩

def kind : SemLoc sig → CK
  | .reg _ => .inl 0
  | .dma q => if q.val < 4 then .inl ⟨(if q.val = 0 then 1 else q.val) % 4, Nat.mod_lt _ (by decide)⟩
      else if q.val < 12 then .inr (.inl ⟨(q.val - 4) % 8, Nat.mod_lt _ (by decide)⟩)
      else .inr (.inr ⟨(q.val - 12) % 8, Nat.mod_lt _ (by decide)⟩)

theorem kind_sl : ∀ k : CK, kind (sl k) = k := by decide
theorem sl_inj : Function.Injective sl := fun a b h => by rw [← kind_sl a, ← kind_sl b, h]

/-- A semaphore of a device. -/
abbrev cell (c : Dev nD) (k : CK) : GSem nD τ sig := ((c : Thread nD τ), sl k)

theorem cell_inj {c d : Dev nD} {k l : CK} (h : cell c k = cell d l) : c = d ∧ k = l :=
  ⟨Fin.ext (congrArg (fun g : GSem nD τ sig => g.1.1.val) h), sl_inj (congrArg Prod.snd h)⟩

theorem sem_copy : (cc0_scratch2.sem : DmaSem sig) = ⟨1, by decide⟩ := by decide
theorem sem_exS : (cc0_scratch3.sem : DmaSem sig) = ⟨2, by decide⟩ := by decide
theorem sem_exR : (cc0_scratch4.sem : DmaSem sig) = ⟨3, by decide⟩ := by decide

theorem one_inb : ∀ p : Fin 8, ∀ a, (![p.val] : Fin 1 → ℕ) a + S1.size a ≤ S8.size a := by decide
theorem sem_gS (p : Fin 8) : ((cc0_scratch5.slice (Rect.unit (s := S8) ![p.val] S1.size (one_inb p))).squeeze S_ squeezes_S1_S_).sem
    = (⟨4 + p.val, by have := p.isLt; show 4 + p.val < 20; omega⟩ : DmaSem sig) := by revert p; decide
theorem sem_gR (p : Fin 8) : ((cc0_scratch6.slice (Rect.unit (s := S8) ![p.val] S1.size (one_inb p))).squeeze S_ squeezes_S1_S_).sem
    = (⟨12 + p.val, by have := p.isLt; show 12 + p.val < 20; omega⟩ : DmaSem sig) := by revert p; decide

end Cert.KernelIdeal.Run

end
-- ==== Proof.Proto.lean ====
module

public import proofs.«01_k».proof.Proof.Mesh
public import Idealize.ShloMosaic.Lib.StableHlo.CollectiveRules

/-!
# The protocol: who signals and sends what to whom, and with which contents

Every semaphore has one round. The barrier of a device is raised by its partner and by the seven others of its
group, each handing over the place the device will write to: its own second exchange slab, or the device's rows of
its result buffer. The exchange carries a device's candidate list into the partner's second slab, and the gathering
sends carry a device's merged rows into the same rows of the seven others.
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A duty: the partner's (or the only one), or the one of a place of the group. -/
abbrev DD : Type := Option (Fin 8)
abbrev UU : Type := UR sig nD τ × URounds (GSem nD τ sig) DD

local notation "𝕄" => MT nD τ sig Unit (Elt F) ℕ UU ℕ

abbrev EP : Emb (UR sig nD τ) (MT nD τ sig Unit (Elt F) ℕ UU ℕ) := embL
abbrev ER : Emb (URounds (GSem nD τ sig) DD) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents -/

/-- A slab of one list seen as the list. -/
abbrev sqM (k : Fin 2) : Memref sig .tc .vmem S128x32 .f32 := (slabM k).squeeze S128x32 squeezes_S1x128x32_S128x32
def sqv (X : Vec F S1x128x32 .f32) : Vec F S128x32 .f32 :=
  fun i => X (Shape.reshapeEquiv (Shape.Squeezes.numel_eq squeezes_S1x128x32_S128x32) i)

/-- The rows device `c` reads of its block of the argument. -/
def xrows (c : Dev nD) : Vec F S128x8192 .f32 := (xM c).view.read (Elt F) (m ((c : Thread nD τ).loc main_arg0))
/-- The candidate list of device `c`, as it is stored. -/
def lst (c : Dev nD) : Vec F S1x128x32 .f32 := k0_pay336 (chunkTop (xrows m c))
/-- The rows device `c` merges. -/
def mg (c : Dev nD) : Vec F S128x32 .f32 := merge (lst m c) (lst m (par c))

/-- Ownership with some contents. -/
def some' (c : Dev nD) {sp : Space} {s : Shape} {e : EltTy} (r : Memref sig .tc sp s e) : sProp 𝕄 :=
  iprop(∃ X, owns (c : Thread nD τ) r fullShare X)
instance some'_storable (c : Dev nD) {sp : Space} {s : Shape} {e : EltTy} (r : Memref sig .tc sp s e) :
    BI.Storable (upEmb : UEmb _ 𝕄) (some' (F := F) c r) := by unfold some'; infer_instance

abbrev N : ℕ := (rowsM 0).view.dmaCredit
theorem N_pos : 0 < N := View.dmaCredit_pos _ (by decide)
abbrev Nx : ℕ := vM.view.dmaCredit
theorem Nx_pos : 0 < Nx := View.dmaCredit_pos _ (by decide)

/-- The share of its own rows a device lends to the send to place `p`. -/
abbrev pc (p : Fin 8) : PosShare TreeShare := PosShare.pieces 8 fullShare p

/-! ## The schedule -/

def barPay (c : Dev nD) : DD → sProp 𝕄
  | none => some' (par c) (sqM 1)
  | some q => some' (at' c q) (rowsM (gi c))

def copyPay (c : Dev nD) : sProp 𝕄 :=
  iprop(owns (c : Thread nD τ) vM fullShare (xrows m c)
    ∗ ((xM c).view.loc (c : Thread nD τ) ↦[(xM c).view.set]{fullShare} m ((c : Thread nD τ).loc main_arg0)))
def exSPay (c : Dev nD) : sProp 𝕄 := owns (c : Thread nD τ) (sqM 0) fullShare (sqv (lst m c))
def exRPay (c : Dev nD) : sProp 𝕄 := owns (c : Thread nD τ) (sqM 1) fullShare (sqv (lst m (par c)))
def gSPay (c : Dev nD) (p : Fin 8) : sProp 𝕄 := owns (c : Thread nD τ) (rowsM (gi c)) (pc p) (mg m c)
def gRPay (c : Dev nD) (p : Fin 8) : sProp 𝕄 := owns (c : Thread nD τ) (rowsM p) fullShare (mg m (at' c p))

def pay (c : Dev nD) (d : DD) : CK → sProp 𝕄
  | .inl k => if k = 0 then barPay c d else if k = 1 then copyPay m c else if k = 2 then exSPay m c else exRPay m c
  | .inr (.inl p) => gSPay m c p
  | .inr (.inr p) => gRPay m c p

def dut (c : Dev nD) : CK → Finset DD
  | .inl k => if k = 0 then Finset.univ.erase (some (gi c)) else {none}
  | .inr (.inl p) => if p = gi c then ∅ else {none}
  | .inr (.inr p) => if p = gi c then ∅ else {none}

def amt : CK → ℕ
  | .inl k => if k = 0 then 1 else if k = 1 then Nx else N
  | .inr _ => N

theorem amt_pos (k : CK) : 0 < amt k := by
  rcases k with k | p
  · show 0 < (if k = 0 then 1 else if k = 1 then Nx else N)
    split
    · exact Nat.one_pos
    · split
      · exact Nx_pos
      · exact N_pos
  · exact N_pos

def Rd : Rounds.Schedule (GSem nD τ sig) DD 𝕄 where
  duties g r := if r = 0 ∧ g.1.2 = .tc then dut g.1.1 (kind g.2) else ∅
  unitless _ := False
  amount g _ _ := amt (kind g.2)
  payload g _ d := pay m g.1.1 d (kind g.2)
  amount_pos g _ _ _ := amt_pos _

instance Rd_storable (g : GSem nD τ sig) (r : ℕ) (d : DD) : BI.Storable (upEmb : UEmb _ 𝕄) ((Rd (F := F) m).payload g r d) := by
  show BI.Storable upEmb (pay m g.1.1 d (kind g.2))
  rcases kind g.2 with k | p | p
  · show BI.Storable upEmb (if k = 0 then barPay g.1.1 d else if k = 1 then copyPay m g.1.1 else if k = 2 then exSPay m g.1.1 else exRPay m g.1.1)
    (repeat' split)
    · rcases d with _ | q
      · show BI.Storable upEmb (some' (par g.1.1) (sqM 1)); infer_instance
      · show BI.Storable upEmb (some' (at' g.1.1 q) (rowsM (gi g.1.1))); infer_instance
    · unfold copyPay; infer_instance
    · unfold exSPay; infer_instance
    · unfold exRPay; infer_instance
  · show BI.Storable upEmb (gSPay m g.1.1 p); unfold gSPay; infer_instance
  · show BI.Storable upEmb (gRPay m g.1.1 p); unfold gRPay; infer_instance

section Sched
variable (c : Dev nD) (k : CK)

omit [FloatOps F] in
theorem duties_cell [FloatOps F] : (Rd (F := F) m).duties (cell c k) 0 = dut c k := by
  show (if (0 : ℕ) = 0 ∧ True then dut c (kind (sl k)) else ∅) = _
  rw [if_pos ⟨rfl, trivial⟩, kind_sl]
theorem duties_later (g : GSem nD τ sig) : ∀ r, 1 ≤ r → (Rd (F := F) m).duties g r = ∅ :=
  fun r hr => by dsimp only [Rd]; exact if_neg fun h => by omega
theorem amount_cell (d : DD) : (Rd (F := F) m).amount (cell c k) 0 d = amt k := by
  show amt (kind (sl k)) = _; rw [kind_sl]
theorem payload_cell (d : DD) : (Rd (F := F) m).payload (cell c k) 0 d = pay m c d k := by
  show pay m c d (kind (sl k)) = _; rw [kind_sl]
theorem expect_cell : (Rd (F := F) m).expect (cell c k) 0 = (dut c k).card * amt k := by
  unfold Schedule.expect Schedule.amountOf
  rw [duties_cell, Finset.sum_congr rfl (fun d _ => amount_cell m c k d), Finset.sum_const, smul_eq_mul]
theorem rest_cell : bigSep ((Rd (F := F) m).duties (cell c k) 0 \ ∅) (fun d => (Rd (F := F) m).payload (cell c k) 0 d)
    = bigSep (dut c k) (fun d => pay m c d k) := by
  rw [Finset.sdiff_empty, duties_cell]
  exact congrArg _ (funext fun d => payload_cell m c k d)

end Sched

/-! ## Levels -/

def lvK : CK → ℕ
  | .inl k => if k = 0 then 1 else if k = 3 then 2 else 0
  | .inr (.inl _) => 0
  | .inr (.inr _) => 3

def L (g : GSem nD τ sig) : Finset Unit := if g.1.2 = .tc then {()} else ∅
def lv (g : GSem nD τ sig) (_ : Unit) : ℕ := lvK (kind g.2)
theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is on a core's semaphore of a level above `n`. -/
def High (n : ℕ) (O : CellTallies nD τ sig Unit) : Prop := ∀ g u, 0 < O g u → g.1.2 = .tc ∧ n < lv g u

theorem High.add {n : ℕ} {A B : CellTallies nD τ sig Unit} (ha : High n A) (hb : High n B) : High n (A + B) := by
  intro g u h
  rw [Pi.add_apply, Finsupp.add_apply] at h
  rcases Nat.eq_zero_or_pos (A g u) with h0 | h0
  · exact hb g u (by omega)
  · exact ha g u h0
theorem High.zero (n : ℕ) : High n 0 := fun g u h => absurd h (Nat.lt_irrefl 0)
theorem High.tally {n : ℕ} (c : Dev nD) (k : CK) (a : ℕ) (h : n < lvK k) : High n (tallyAt (cell c k) () a) := by
  intro g u hg
  rw [tallyAt_apply] at hg
  by_cases e : g = cell c k ∧ u = ()
  · rw [e.1]; exact ⟨rfl, by show n < lvK (kind (sl k)); rw [kind_sl]; exact h⟩
  · rw [if_neg e] at hg; exact absurd hg (Nat.lt_irrefl 0)

theorem mayWait_high (c : Dev nD) (k : CK) (O : CellTallies nD τ sig Unit) (h : High (lvK k) O) :
    (levAts L lv : sProp 𝕄) ⊢ MayWait (c : Thread nD τ) (sl k) () O :=
  Pipeline.mayWait_of_levAts (by rw [L_tc]; exact Finset.mem_singleton_self _)
    (fun g i hg => ⟨by unfold L; rw [if_pos (h g i hg).1]; exact Finset.mem_singleton_self _,
      by show lvK (kind (sl k)) < lv g i; rw [kind_sl]; exact (h g i hg).2⟩)

/-! ## What a device owes at launch -/

/-- For the send to place `p`: the credit of that device's receiving semaphore. -/
def recO (c : Dev nD) (p : Fin 8) : CellTallies nD τ sig Unit := tallyAt (cell (at' c p) (.inr (.inr (gi c)))) () (if p = gi c then 0 else N)
/-- For the signal to place `p`: one unit of that device's barrier. -/
def sigO (c : Dev nD) (p : Fin 8) : CellTallies nD τ sig Unit := tallyAt (cell (at' c p) (.inl 0)) () (if p = gi c then 0 else 1)
def exO (c : Dev nD) : CellTallies nD τ sig Unit := tallyAt (cell (par c) (.inl 3)) () N
def parO (c : Dev nD) : CellTallies nD τ sig Unit := tallyAt (cell (par c) (.inl 0)) () 1

def recs (c : Dev nD) : CellTallies nD τ sig Unit :=
  0 + recO c 7 + recO c 6 + recO c 5 + recO c 4 + recO c 3 + recO c 2 + recO c 1 + recO c 0
def sigs (c : Dev nD) (O : CellTallies nD τ sig Unit) : CellTallies nD τ sig Unit :=
  O + sigO c 7 + sigO c 6 + sigO c 5 + sigO c 4 + sigO c 3 + sigO c 2 + sigO c 1 + sigO c 0
def O₀ (c : Dev nD) : CellTallies nD τ sig Unit := sigs c (recs c + exO c) + parO c

theorem high_recO (c : Dev nD) (p : Fin 8) : High 2 (recO c p) := High.tally _ _ _ (by show 2 < 3; decide)
theorem high_recs (c : Dev nD) : High 2 (recs c) := by
  unfold recs; (repeat' apply High.add) <;> first | exact High.zero _ | exact high_recO _ _
theorem High.mono {n n' : ℕ} (h : n' ≤ n) {O : CellTallies nD τ sig Unit} (hO : High n O) : High n' O :=
  fun g u hg => ⟨(hO g u hg).1, lt_of_le_of_lt h (hO g u hg).2⟩
theorem high_ex (c : Dev nD) : High 1 (recs c + exO c) :=
  (High.mono (by decide) (high_recs c)).add (High.tally _ _ _ (by decide))
theorem high_sigO (c : Dev nD) (p : Fin 8) : High 0 (sigO c p) := High.tally _ _ _ (by decide)
theorem high_O₀ (c : Dev nD) : High 0 (O₀ c) := by
  unfold O₀ sigs
  have hx : High 0 (recs c + exO c) := High.mono (by decide) (high_ex c)
  revert hx
  generalize recs c + exO c = X
  intro hx
  refine High.add ?_ (High.tally _ _ _ (by decide))
  (repeat' apply High.add) <;> first | exact hx | exact high_sigO _ _

/-! ## A family over the places, without one's own -/

/-- `R`, unless `p` is `c`'s own place. -/
def oth (c : Dev nD) (p : Fin 8) (R : sProp 𝕄) : sProp 𝕄 := if p = gi c then iprop(emp) else R
theorem oth_self (c : Dev nD) (p : Fin 8) (h : p = gi c) (R : sProp 𝕄) : oth c p R = iprop(emp) := if_pos h
theorem oth_ne (c : Dev nD) (p : Fin 8) (h : p ≠ gi c) (R : sProp 𝕄) : oth c p R = R := if_neg h

theorem bigSep_oth (c : Dev nD) (Φ : Fin 8 → sProp 𝕄) :
    bigSep Finset.univ Φ = iprop(Φ (gi c) ∗ bigSep Finset.univ (fun p => oth c p (Φ p))) := by
  rw [bigSep_univ_at Φ (gi c), bigSep_univ_at (fun p => oth c p (Φ p)) (gi c), oth_self c _ rfl, bigSep_congr (fun p hp => oth_ne c p (Finset.ne_of_mem_erase hp) (Φ p))]
  exact congrArg _ (BI.equiv_iff.mp BI.emp_sep).symm

end Cert.KernelIdeal.Run

end
-- ==== Proof.Ops.lean ====
module

public import proofs.«01_k».proof.Proof.Proto

/-!
# The steps a device takes towards the place `p` of its group, skipped at its own place

A signal to that place's barrier, a send of the merged rows to that place, the wait for the rows of that place and the
wait for the end of the send: one rule each, at a symbolic place, in the form the body has them (an operation under a
condition on the place). The last two also close the semaphore.
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's programs. -/
abbrev PR (F : FTy → Type) (α : Type) : Type 1 := Prog (TpuEff nD τ sig (Elt F) Λ₀ .tc) α
/-- What device `c` needs to run `p` to `Q`. -/
abbrev WP (c : Dev nD) {α : Type} (p : PR F α) (Q : α → sProp 𝕄) : sProp 𝕄 :=
  wp frame (wpE (defs₀ (F := F)) 𝒱₀ (c : Thread nD τ) none) Set.univ p Q

/-- Every cell's record: its invariant, and that its round is open. -/
def recd (K : Dev nD × CK → ℕ) : sProp 𝕄 :=
  bigSep Finset.univ fun ck : Dev nD × CK => iprop(cellInv ER (Rd m) (K ck) (cell ck.1 ck.2) ∗ reached ER (cell ck.1 ck.2) 0)
instance recd_persistent (K : Dev nD × CK → ℕ) : BI.Persistent (recd m K) := by
  unfold recd; exact BI.bigSep_persistent _ _

variable (K : Dev nD × CK → ℕ)

theorem recd_at (c : Dev nD) (k : CK) : recd m K ⊢ iprop(cellInv ER (Rd m) (K (c, k)) (cell c k) ∗ reached ER (cell c k) 0) :=
  bigSep_elim (Finset.mem_univ (c, k))

theorem emp_left (P : sProp 𝕄) : iprop(emp ∗ P) = P := BI.equiv_iff.mp BI.emp_sep
theorem erase_places (c : Dev nD) : (Finset.univ : Finset DD).erase (some (gi c))
    = insert none ((Finset.univ.erase (gi c)).map ⟨some, Option.some_injective _⟩) := by revert c; decide

theorem bar_rest (c : Dev nD) : bigSep (dut c (.inl 0)) (fun d => pay m c d (.inl 0))
    = iprop(some' (F := F) (par c) (sqM 1) ∗ bigSep Finset.univ (fun p => oth c p (some' (F := F) (at' c p) (rowsM (gi c))))) := by
  show bigSep (Finset.univ.erase (some (gi c))) (fun d => barPay c d) = _
  rw [erase_places, bigSep_insert (by simp), bigSep_map, bigSep_univ_at (fun p => oth c p (some' (F := F) (at' c p) (rowsM (gi c)))) (gi c),
    oth_self c _ rfl, emp_left]
  rw [bigSep_congr (fun p hp => oth_ne c p (Finset.ne_of_mem_erase hp) (some' (F := F) (at' c p) (rowsM (gi c))))]
  rfl

/-- The wait for the eight raises of the barrier, which also closes it. -/
theorem wp_bar (c : Dev nD) (O : CellTallies nD τ sig Unit) (hO : High 1 O) {α : Type} {Q : α → sProp 𝕄} {k : PR F α} :
    iprop(recd m K ∗ levAts L lv ∗ (∃ W, owes (c : Thread nD τ) O W) ∗ cred (tallyAt (cell c (.inl 0)) () 8) ∗ atPos ER (cell c (.inl 0)) 0 ∅ 0)
      ⊢ iprop(((∃ W, owes (c : Thread nD τ) O W) ∗ (some' (F := F) (par c) (sqM 1) ∗ bigSep Finset.univ (fun p => oth c p (some' (F := F) (at' c p) (rowsM (gi c)))))
            ∗ semVal (cell c (.inl 0)) 0 -∗ WP c k Q)
        -∗ WP c (.op (.semWait barrier0 8) fun _ => k) Q) := by
  have hx : (0 : ℕ) + 8 = (Rd (F := F) m).expect (cell c (.inl 0)) 0 := by
    rw [expect_cell]
    show 8 = (Finset.univ.erase (some (gi c))).card * 1
    rw [Finset.card_erase_of_mem (Finset.mem_univ _)]; rfl
  iintro ⟨#HI, #Hlev, ⟨%W, HO⟩, Hc, Ha⟩ Hk
  ihave ⟨#Hg, #Hr⟩ := recd_at m K c (.inl 0) $$ HI
  ihave #Hmw := mayWait_high c (.inl 0) O hO $$ Hlev
  iapply (wp_wait_rest_token 𝒱₀ ER (Rd m) (c : Thread nD τ) none (sm := .reg barrier0) (κ := K (c, .inl 0))
    (wpE_semWait_eq 𝒱₀ (c : Thread nD τ) none Set.univ) (Set.mem_univ _) () (O := O) (W := W) (R := 0) (m := 0) (T := ∅) hx) $$ [HO Hc Ha]
  · isplitl []; · iexact Hg
    isplitl [Hc]; · iexact Hc
    isplitl [HO]; · iexact HO
    isplitl []; · iexact Hmw
    iexact Ha
  · iintro ⟨HO, Ha, -, Hp⟩
    imod (cell_close ER (Rd m) (κ := K (c, .inl 0)) (Set.mem_univ _) (fun h => h) (fun r hr => duties_later m _ r hr)) $$ [Ha] with Hv
    · isplitl []; · iexact Hg
      iexact Ha
    iapply Hk
    isplitl [HO]; · iexists _; iexact HO
    isplitl [Hp]
    · have he : bigSep ((Rd (F := F) m).duties ((c : Thread nD τ), SemLoc.reg barrier0) 0 \ ∅) (fun d => (Rd (F := F) m).payload ((c : Thread nD τ), SemLoc.reg barrier0) 0 d)
          = _ := (rest_cell m c (.inl 0)).trans (bar_rest m c)
      ihave Hp' := (BIBase.Entails.of_eq he) $$ Hp
      iexact Hp'
    · iexact Hv

/-- A transfer to device `d` of contents the sender owns at some share, into elements of `d` the sender was handed. -/
theorem wp_send_own (c d n : Dev nD) (hn : n = d) {s : Shape} (src dst : Memref sig .tc .vmem s .f32) (k₁ k₂ : CK) (sS sR : DmaSem sig)
    (hsS : SemLoc.dma sS = sl k₁) (hsR : SemLoc.dma sR = sl k₂) (q : PosShare TreeShare) (X : Vec F s .f32)
    (hN : dst.view.dmaCredit = N) (ha₁ : amt k₁ = N) (ha₂ : amt k₂ = N) (hd₁ : dut c k₁ = {none}) (hd₂ : dut d k₂ = {none})
    (hp₁ : pay m c none k₁ = owns (c : Thread nD τ) src q X) (hp₂ : pay m d none k₂ = owns (d : Thread nD τ) dst fullShare X)
    {hsc : (dst : Memref sig (Dev.tc n : Thread nD τ).2.kind .vmem s .f32).view.ref.isScScratch = false}
    {e1 : src.view.WordExact} {e2 : dst.view.WordExact}
    {e3 : DmaTarget.Typed .vmem (.dma sR) (.remote (Dev.tc n : Thread nD τ) dst (.dma sS) hsc)}
    (O : CellTallies nD τ sig Unit) (W : Waits sig Unit) {α : Type} {Q : α → sProp 𝕄} {k : PR F α} :
    iprop(recd m K ∗ owes (c : Thread nD τ) (O + tallyAt (cell d k₂) () N) W
        ∗ dutyTok ER (cell d k₂) 0 none ∗ dutyTok ER (cell c k₁) 0 none ∗ some' (F := F) d dst ∗ owns (c : Thread nD τ) src q X)
      ⊢ iprop((owes (c : Thread nD τ) O W ∗ cred (tallyAt (cell c k₁) () N) -∗ WP c k Q)
        -∗ WP c (.op (.enqueueDma src (.remote (Dev.tc n : Thread nD τ) dst (.dma sS) hsc) (.dma sR) e1 e2 e3) fun _ => k) Q) := by
  subst hn
  have hc₁ : cell c k₁ = ((c : Thread nD τ), SemLoc.dma sS) := by rw [cell, hsS]
  have hc₂ : cell n k₂ = ((n : Thread nD τ), SemLoc.dma sR) := by rw [cell, hsR]
  unfold some' owns
  iintro ⟨#HI, HO, Ht, Ht', ⟨%Y, %fd, %hfd, Hd⟩, ⟨%fs, %hfs, Hs⟩⟩ Hk
  ihave ⟨#Hg, #Hr⟩ := recd_at m K n k₂ $$ HI
  ihave ⟨#Hg', #Hr'⟩ := recd_at m K c k₁ $$ HI
  have hm₁ : (none : DD) ∈ (Rd (F := F) m).duties ((c : Thread nD τ), SemLoc.dma sS) 0 := by
    rw [← hc₁, duties_cell, hd₁]; exact Finset.mem_singleton_self _
  have hm₂ : (none : DD) ∈ (Rd (F := F) m).duties ((n : Thread nD τ), SemLoc.dma sR) 0 := by
    rw [← hc₂, duties_cell, hd₂]; exact Finset.mem_singleton_self _
  have hk₁ : (Rd (F := F) m).amount ((c : Thread nD τ), SemLoc.dma sS) 0 none = N := by rw [← hc₁, amount_cell, ha₁]
  have hk₂ : (Rd (F := F) m).amount ((n : Thread nD τ), SemLoc.dma sR) 0 none = N := by rw [← hc₂, amount_cell, ha₂]
  rw [hc₁, hc₂]
  iapply (Rounds.wp_send_pointsTo 𝒱₀ ER (Rd m) (c : Thread nD τ) none (κ₁ := K (c, k₁)) (κ₂ := K (n, k₂))
    (r₁ := 0) (r₂ := 0) (d₁ := none) (d₂ := none) (fs := fs) (fd := fd) hm₁ hm₂ () () N hN hk₁ hk₂ O rfl (W := W)
    (by rw [← hc₁, payload_cell, hp₁, ← hfs]; exact owns_intro _ _ _ _)
    (by
      rw [← hc₂, payload_cell, hp₂, ← hfs]
      have := owns_intro (Ix := Unit) (Name := ℕ) (U := UU) (Lvl := ℕ) (n : Thread nD τ) dst fullShare (dst.view.write (Elt F) fd (src.view.read (Elt F) fs) Finset.univ)
      rw [View.read_write_univ] at this
      exact this)) $$ [HO Ht Ht' Hd Hs]
  · isplitl []; · iexact Hg'
    isplitl []; · iexact Hg
    isplitl [Hs]; · iexact Hs
    isplitl [Hd]; · iexact Hd
    isplitl [HO]; · iexact HO
    isplitl [Ht']; · iexact Ht'
    isplitl []; · iexact Hr'
    isplitl [Ht]; · iexact Ht
    iexact Hr
  · iintro ⟨Hc, HO⟩
    iapply Hk
    isplitl [HO]; · iexact HO
    iexact Hc

section
variable (c : Dev nD) (p : Fin 8) (cond : BitVec 1) (hc : cond = 1#1 ↔ p ≠ gi c)
include hc

theorem wp_sig (n : cond = 1#1 → Dev nD) (hn : ∀ h, n h = at' c p) (sem : Sem sig) (hsem : sem = barrier0)
    (O : CellTallies nD τ sig Unit) (W : Waits sig Unit) {α : Type} {Q : α → sProp 𝕄} {k : PR F α} :
    iprop(recd m K ∗ owes (c : Thread nD τ) (O + sigO c p) W ∗ dutyTok ER (cell (at' c p) (.inl 0)) 0 (some (gi c))
        ∗ oth c p (some' (F := F) c (rowsM p)))
      ⊢ iprop((owes (c : Thread nD τ) O W -∗ WP c k Q)
        -∗ WP c (dite (cond = 1#1) (fun h => .op (.semSignal ((n h : Dev nD) : Thread nD τ) sem (1#32).toInt) fun _ => k) (fun _ => k)) Q) := by
  subst hsem
  by_cases h : cond = 1#1
  · have hp := hc.mp h
    rw [dif_pos h, hn h, oth_ne c p hp]
    iintro ⟨#HI, HO, Ht, Hx⟩ Hk
    ihave ⟨#Hg, #Hr⟩ := recd_at m K (at' c p) (.inl 0) $$ HI
    have hO : O + sigO c p = O + tallyAt (cell (at' c p) (.inl 0)) () 1 := by unfold sigO; rw [if_neg hp]
    iapply (wp_signal 𝒱₀ ER (Rd m) (c : Thread nD τ) none (dst := ((at' c p : Dev nD) : Thread nD τ)) (sem := barrier0) (r := 0) (k' := 1)
      (d := some (gi c)) (κ := K (at' c p, .inl 0))
      (by rw [show ((((at' c p : Dev nD) : Thread nD τ), SemLoc.reg barrier0) : GSem nD τ sig) = cell (at' c p) (.inl 0) from rfl, duties_cell]
          show some (gi c) ∈ Finset.univ.erase (some (gi (at' c p)))
          rw [gi_at]
          exact Finset.mem_erase.mpr ⟨fun e => hp (Option.some.inj e).symm, Finset.mem_univ _⟩)
      (by exact amount_cell m (at' c p) (.inl 0) _) () O hO) $$ [HO Ht Hx]
    · isplitl []; · iexact Hg
      isplitl [HO]; · iexact HO
      isplitl [Ht]; · iexact Ht
      isplitl [Hx]
      · have e : (Rd m).payload (((at' c p : Dev nD) : Thread nD τ), SemLoc.reg barrier0) 0 (some (gi c)) = _ := payload_cell m (at' c p) (.inl 0) (some (gi c))
        have e' : pay m (at' c p) (some (gi c)) (.inl 0) = some' (F := F) c (rowsM p) := by
          show some' (at' (at' c p) (gi c)) (rowsM (gi (at' c p))) = _
          rw [at_at, at_gi, gi_at]
        ihave Hx' := (BIBase.Entails.of_eq (e'.symm.trans e.symm)) $$ Hx
        iexact Hx'
      · iexact Hr
    · iexact Hk
  · have hp : p = gi c := by by_contra hne; exact h (hc.mpr hne)
    rw [dif_neg h]
    iintro ⟨-, HO, -, -⟩ Hk
    iapply Hk
    have hO : O + sigO c p = O := by unfold sigO; rw [if_pos hp, tallyAt_zero, add_zero]
    rw [hO]; iexact HO

/-- What the send to place `p` leaves the sender with: the right to wait for its end; at the own place, the lent share. -/
def sent (c : Dev nD) (p : Fin 8) : sProp 𝕄 :=
  if p = gi c then gSPay m c p else cred (tallyAt (cell c (.inr (.inl p))) () N)

theorem wp_gsend (n : cond = 1#1 → Dev nD) (hn : ∀ h, n h = at' c p)
    (off : Fin 2 → ℕ) (hoff : off = ![128 * (gi c).val, 0]) (inb : cond = 1#1 → ∀ a, off a + S128x32.size a ≤ S1024x32.size a)
    (sS : DmaSem sig) (hsS : SemLoc.dma sS = sl (.inr (.inl p))) (sR : cond = 1#1 → DmaSem sig) (hsR : ∀ h, SemLoc.dma (sR h) = sl (.inr (.inr (gi c))))
    {hsc : ∀ h : cond = 1#1, (oM.slice (Rect.unit (s := S1024x32) off S128x32.size (inb h)) (fun _ => rfl) : Memref sig (Dev.tc (n h) : Thread nD τ).2.kind .vmem S128x32 .f32).view.ref.isScScratch = false}
    {e1 : ∀ h : cond = 1#1, (oM.slice (Rect.unit (s := S1024x32) off S128x32.size (inb h)) (fun _ => rfl)).view.WordExact}
    {e2 : ∀ h : cond = 1#1, (oM.slice (Rect.unit (s := S1024x32) off S128x32.size (inb h)) (fun _ => rfl)).view.WordExact}
    {e3 : ∀ h : cond = 1#1, DmaTarget.Typed .vmem (.dma (sR h)) (.remote (Dev.tc (n h) : Thread nD τ) (oM.slice (Rect.unit (s := S1024x32) off S128x32.size (inb h)) (fun _ => rfl)) (.dma sS) (hsc h))}
    (O : CellTallies nD τ sig Unit) (W : Waits sig Unit) {α : Type} {Q : α → sProp 𝕄} {k : PR F α} :
    iprop(recd m K ∗ owes (c : Thread nD τ) (O + recO c p) W
        ∗ dutyTok ER (cell (at' c p) (.inr (.inr (gi c)))) 0 none ∗ dutyTok ER (cell c (.inr (.inl p))) 0 none
        ∗ oth c p (some' (F := F) (at' c p) (rowsM (gi c))) ∗ gSPay m c p)
      ⊢ iprop((owes (c : Thread nD τ) O W ∗ sent m c p -∗ WP c k Q)
        -∗ WP c (dite (cond = 1#1) (fun h => .op (.enqueueDma (oM.slice (Rect.unit (s := S1024x32) off S128x32.size (inb h)) (fun _ => rfl))
            (.remote (Dev.tc (n h) : Thread nD τ) (oM.slice (Rect.unit (s := S1024x32) off S128x32.size (inb h)) (fun _ => rfl)) (.dma sS) (hsc h)) (.dma (sR h)) (e1 h) (e2 h) (e3 h)) fun _ => k) (fun _ => k)) Q) := by
  subst hoff
  by_cases h : cond = 1#1
  · have hp := hc.mp h
    rw [dif_pos h, oth_ne c p hp]
    have e4 : gi c ≠ gi (at' c p) := by rw [gi_at]; exact fun e => hp e.symm
    have hO : O + recO c p = O + tallyAt (cell (at' c p) (.inr (.inr (gi c)))) () N := by unfold recO; rw [if_neg hp]
    unfold sent
    rw [if_neg hp, hO]
    exact wp_send_own m K c (at' c p) (n h) (hn h) (rowsM (gi c)) (rowsM (gi c)) (.inr (.inl p)) (.inr (.inr (gi c))) sS (sR h) hsS (hsR h)
      (pc p) (mg m c) rfl rfl rfl (if_neg hp) (if_neg e4) rfl
      (by show owns ((at' c p : Dev nD) : Thread nD τ) (rowsM (gi c)) fullShare (mg m (at' (at' c p) (gi c))) = _; rw [at_at, at_gi]) O W
  · have hp : p = gi c := by by_contra hne; exact h (hc.mpr hne)
    rw [dif_neg h]
    iintro ⟨-, HO, -, -, -, Hp⟩ Hk
    iapply Hk
    have hO : O + recO c p = O := by unfold recO; rw [if_pos hp, tallyAt_zero, add_zero]
    rw [hO]
    isplitl [HO]; · iexact HO
    unfold sent; rw [if_pos hp]; iexact Hp

omit hc in
/-- The wait for the whole of a copy semaphore's round, which also closes it. -/
theorem wp_wait_cell (kk : CK) (sm : DmaSem sig) (hs : SemLoc.dma sm = sl kk)
    {sp sp' : Space} {s' : Shape} {e e' : EltTy} {s : Shape} {src : Memref sig .tc sp' s' e'} {dst : Memref sig .tc sp s e}
    {e1 : src.view.WordExact} {e2 : dst.view.WordExact} (hN : dst.view.dmaCredit = amt kk) (hd : dut c kk = {none})
    (O : CellTallies nD τ sig Unit) (hO : High (lvK kk) O) {α : Type} {Q : α → sProp 𝕄} {k : PR F α} :
    iprop(recd m K ∗ levAts L lv ∗ (∃ W, owes (c : Thread nD τ) O W) ∗ cred (tallyAt (cell c kk) () (amt kk)) ∗ atPos ER (cell c kk) 0 ∅ 0)
      ⊢ iprop(((∃ W, owes (c : Thread nD τ) O W) ∗ pay m c none kk ∗ semVal (cell c kk) 0 -∗ WP c k Q)
        -∗ WP c (.op (.waitDma2 sm src dst e1 e2) fun _ => k) Q) := by
  have hcell : cell c kk = ((c : Thread nD τ), SemLoc.dma sm) := by rw [cell, hs]
  have hx : (0 : ℕ) + dst.view.dmaCredit = (Rd (F := F) m).expect ((c : Thread nD τ), SemLoc.dma sm) 0 := by
    rw [← hcell, expect_cell, hd, hN, Finset.card_singleton, one_mul, zero_add]
  iintro ⟨#HI, #Hlev, ⟨%W, HO⟩, Hc, Ha⟩ Hk
  ihave ⟨#Hg, #Hr⟩ := recd_at m K c kk $$ HI
  ihave #Hmw := mayWait_high c kk O hO $$ Hlev
  rw [hcell, ← hN, ← hs]
  iapply (wp_wait_rest_token 𝒱₀ ER (Rd m) (c : Thread nD τ) none (κ := K (c, kk))
    (wpE_waitDma2_eq 𝒱₀ (c : Thread nD τ) none Set.univ) (Set.mem_univ _) () (O := O) (W := W) (R := 0) (m := 0) (T := ∅) hx) $$ [HO Hc Ha]
  · isplitl []; · iexact Hg
    isplitl [Hc]; · iexact Hc
    isplitl [HO]; · iexact HO
    isplitl []; · iexact Hmw
    iexact Ha
  · iintro ⟨HO, Ha, -, Hp⟩
    imod (cell_close ER (Rd m) (κ := K (c, kk)) (Set.mem_univ _) (fun h => h) (fun r hr => duties_later m _ r hr)) $$ [Ha] with Hv
    · isplitl []; · iexact Hg
      iexact Ha
    iapply Hk
    isplitl [HO]; · iexists _; iexact HO
    isplitl [Hp]
    · have he : bigSep ((Rd (F := F) m).duties ((c : Thread nD τ), SemLoc.dma sm) 0 \ ∅) (fun d => (Rd (F := F) m).payload ((c : Thread nD τ), SemLoc.dma sm) 0 d)
          = pay m c none kk := by rw [← hcell, rest_cell m c kk, hd, bigSep_singleton]
      ihave Hp' := (BIBase.Entails.of_eq he) $$ Hp
      iexact Hp'
    · iexact Hv

omit hc in
/-- A semaphore with no duty closes at once. -/
theorem close_idle (kk : CK) (hd : dut c kk = ∅) : iprop(recd m K ∗ atPos ER (cell c kk) 0 ∅ 0) ⊢ (iprop(|={Set.univ}=> semVal (cell c kk) 0) : sProp 𝕄) := by
  iintro ⟨#HI, Ha⟩
  ihave ⟨#Hg, #Hr⟩ := recd_at m K c kk $$ HI
  iapply (cell_close ER (Rd m) (κ := K (c, kk)) (R := 0) (Set.mem_univ _) (fun h => h)
    (fun r hr => by
      rcases r with _ | r
      · rw [duties_cell]; exact hd
      · exact duties_later m _ _ (Nat.succ_le_succ (Nat.zero_le _))))
  isplitl []; · iexact Hg
  iexact Ha

theorem wp_grecv (sR : DmaSem sig) (hsR : SemLoc.dma sR = sl (.inr (.inr p)))
    {sp sp' : Space} {s' : Shape} {e e' : EltTy} {s : Shape} {src : cond = 1#1 → Memref sig .tc sp' s' e'} {dst : cond = 1#1 → Memref sig .tc sp s e}
    {e1 : ∀ h, (src h).view.WordExact} {e2 : ∀ h, (dst h).view.WordExact} (hN : ∀ h, (dst h).view.dmaCredit = N) {α : Type} {Q : α → sProp 𝕄} {k : PR F α} :
    iprop(recd m K ∗ levAts L lv ∗ (∃ W, owes (c : Thread nD τ) 0 W) ∗ cred (tallyAt (cell c (.inr (.inr p))) () (if p = gi c then 0 else N))
        ∗ atPos ER (cell c (.inr (.inr p))) 0 ∅ 0)
      ⊢ iprop(((∃ W, owes (c : Thread nD τ) 0 W) ∗ oth c p (gRPay m c p) ∗ semVal (cell c (.inr (.inr p))) 0 -∗ WP c k Q)
        -∗ WP c (dite (cond = 1#1) (fun h => .op (.waitDma2 sR (src h) (dst h) (e1 h) (e2 h)) fun _ => k) (fun _ => k)) Q) := by
  by_cases h : cond = 1#1
  · have hp := hc.mp h
    rw [dif_pos h, oth_ne c p hp, if_neg hp]
    exact wp_wait_cell m K c (.inr (.inr p)) sR hsR (hN h) (if_neg hp) 0 (High.zero _)
  · have hp : p = gi c := by by_contra hne; exact h (hc.mpr hne)
    rw [dif_neg h, oth_self c p hp]
    iintro ⟨#HI, -, HO, -, Ha⟩ Hk
    imod (close_idle m K c (.inr (.inr p)) (if_pos hp)) $$ [Ha] with Hv
    · isplitl []; · iexact HI
      iexact Ha
    iapply Hk
    isplitl [HO]; · iexact HO
    isplitl []; · iempintro
    iexact Hv

theorem wp_gswait (sS : DmaSem sig) (hsS : SemLoc.dma sS = sl (.inr (.inl p)))
    {sp sp' : Space} {s' : Shape} {e e' : EltTy} {s : Shape} {src : cond = 1#1 → Memref sig .tc sp' s' e'} {dst : cond = 1#1 → Memref sig .tc sp s e}
    {e1 : ∀ h, (src h).view.WordExact} {e2 : ∀ h, (dst h).view.WordExact} (hN : ∀ h, (dst h).view.dmaCredit = N) {α : Type} {Q : α → sProp 𝕄} {k : PR F α} :
    iprop(recd m K ∗ levAts L lv ∗ (∃ W, owes (c : Thread nD τ) 0 W) ∗ sent m c p ∗ atPos ER (cell c (.inr (.inl p))) 0 ∅ 0)
      ⊢ iprop(((∃ W, owes (c : Thread nD τ) 0 W) ∗ gSPay m c p ∗ semVal (cell c (.inr (.inl p))) 0 -∗ WP c k Q)
        -∗ WP c (dite (cond = 1#1) (fun h => .op (.waitDma2 sS (src h) (dst h) (e1 h) (e2 h)) fun _ => k) (fun _ => k)) Q) := by
  by_cases h : cond = 1#1
  · have hp := hc.mp h
    unfold sent
    rw [dif_pos h, if_neg hp]
    exact wp_wait_cell m K c (.inr (.inl p)) sS hsS (hN h) (if_neg hp) 0 (High.zero _)
  · have hp : p = gi c := by by_contra hne; exact h (hc.mpr hne)
    unfold sent
    rw [dif_neg h, if_pos hp]
    iintro ⟨#HI, -, HO, Hp, Ha⟩ Hk
    imod (close_idle m K c (.inr (.inl p)) (if_pos hp)) $$ [Ha] with Hv
    · isplitl []; · iexact HI
      iexact Ha
    iapply Hk
    isplitl [HO]; · iexact HO
    isplitl [Hp]; · iexact Hp
    iexact Hv

end

end Cert.KernelIdeal.Run

end
-- ==== Proof.Step.lean ====
module

public import proofs.«01_k».proof.Proof.Ops

/-!
# The other steps: loads and stores of owned parts, the local copy, the signal to the partner
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-! ## Parts of a buffer -/

theorem wp_load_own (c : Dev nD) {cs : CoreSpace} {s : Shape} {e : EltTy} (mm : Memref sig .tc cs s e) (r : Rect s) (hr : ∀ a, r.stride a = 1)
    (q : PosShare TreeShare) (X : r.shape.Idx → Elt F e) {hl : mm.view.LoadsAt r.toLoadRect} {α : Type} {Q : α → sProp 𝕄}
    {k : (r.toLoadRect.shape.Idx → Elt F e) → PR F α} :
    owns (c : Thread nD τ) (mm.slice r hr) q X
      ⊢ iprop((owns (c : Thread nD τ) (mm.slice r hr) q X -∗ WP c (k X) Q) -∗ WP c (.op (.load mm r.toLoadRect hl) k) Q) := by
  unfold owns
  iintro ⟨%f, %hf, H⟩ Hk
  have h := wp_load_rect (Ix := Unit) (Name := ℕ) (U := UU) (Lvl := ℕ) (defs := defs₀ (F := F)) 𝒱₀ (c : Thread nD τ) none Set.univ (Γ := ∅) (m := mm) (r := r) (hl := hl) (k := k) (Q := Q) (q := q) (f := f) (S := (mm.access r).set) (Finset.Subset.refl _)
  iapply h $$ [H]
  · iexact H
  · iintro H
    have hf' : (mm.access r).read (Elt F) f = X := hf
    rw [hf']
    iapply Hk
    iexists f
    isplitr; · ipureintro; exact hf
    iexact H

theorem wp_store_own (c : Dev nD) {cs : CoreSpace} {s : Shape} {e : EltTy} (mm : Memref sig .tc cs s e) (r : Rect s) (hr : ∀ a, r.stride a = 1)
    (w : r.shape.Idx → Elt F e) {hx : (mm.access r).Stores Finset.univ} {hm : (Finset.univ : Finset r.shape.Idx) = Finset.univ ∨ ∀ a, r.stride a = 1}
    {α : Type} {Q : α → sProp 𝕄} {k : PUnit → PR F α} :
    some' (F := F) c (mm.slice r hr)
      ⊢ iprop((owns (c : Thread nD τ) (mm.slice r hr) fullShare w -∗ WP c (k ⟨⟩) Q) -∗ WP c (.op (.store mm r w Finset.univ hx hm) k) Q) := by
  unfold some' owns
  iintro ⟨%X, %f, %hf, H⟩ Hk
  have h := wp_store (Ix := Unit) (Name := ℕ) (U := UU) (Lvl := ℕ) (defs := defs₀ (F := F)) 𝒱₀ (c : Thread nD τ) none Set.univ (Γ := ∅) (m := mm) (r := r) (w := w) (hx := hx) (hm := hm) (k := k) (Q := Q) (f := f) (S := (mm.access r).set)
    (by rw [View.setOn_univ])
  iapply h $$ [H]
  · iexact H
  · iintro H
    iapply Hk
    iexists ((mm.access r).write (Elt F) f w Finset.univ)
    isplitr
    · ipureintro; exact View.read_write_univ _ _
    iexact H

/-- A list's slab, squeezed or not. -/
theorem owns_squeeze (c : Dev nD) (k : Fin 2) (q : PosShare TreeShare) (X : Vec F S1x128x32 .f32) :
    owns (Ix := Unit) (Name := ℕ) (U := UU) (Lvl := ℕ) (c : Thread nD τ) (slabM k) q X ⊢ owns (c : Thread nD τ) (sqM k) q (sqv X) := by
  unfold owns
  iintro ⟨%f, %hf, H⟩
  iexists f
  isplitr
  · ipureintro
    funext i
    have : (slabM k).view.read (Elt F) f (Shape.reshapeEquiv (Shape.Squeezes.numel_eq squeezes_S1x128x32_S128x32) i) = sqv X i := congrFun hf _
    exact this
  · have hs : (sqM k).view.set = (slabM k).view.set := View.set_reshape _ _
    rw [hs]; iexact H

theorem owns_unsqueeze (c : Dev nD) (k : Fin 2) (q : PosShare TreeShare) (X : Vec F S1x128x32 .f32) :
    owns (Ix := Unit) (Name := ℕ) (U := UU) (Lvl := ℕ) (c : Thread nD τ) (sqM k) q (sqv X) ⊢ owns (c : Thread nD τ) (slabM k) q X := by
  unfold owns
  iintro ⟨%f, %hf, H⟩
  iexists f
  isplitr
  · ipureintro
    funext i
    have h := congrFun hf ((Shape.reshapeEquiv (Shape.Squeezes.numel_eq squeezes_S1x128x32_S128x32)).symm i)
    have e : (sqM k).view.read (Elt F) f ((Shape.reshapeEquiv (Shape.Squeezes.numel_eq squeezes_S1x128x32_S128x32)).symm i)
      = (slabM k).view.read (Elt F) f (Shape.reshapeEquiv (Shape.Squeezes.numel_eq squeezes_S1x128x32_S128x32) ((Shape.reshapeEquiv (Shape.Squeezes.numel_eq squeezes_S1x128x32_S128x32)).symm i)) := rfl
    rw [e] at h
    unfold sqv at h
    rwa [Equiv.apply_symm_apply] at h
  · have hs : (sqM k).view.set = (slabM k).view.set := View.set_reshape _ _
    rw [hs]; iexact H

/-! ## The signal to the partner -/

theorem wp_sigP (c n : Dev nD) (hn : n = par c) (sem : Sem sig) (hsem : sem = barrier0)
    (O : CellTallies nD τ sig Unit) (W : Waits sig Unit) {α : Type} {Q : α → sProp 𝕄} {k : PR F α} :
    iprop(recd m K ∗ owes (c : Thread nD τ) (O + parO c) W ∗ dutyTok ER (cell (par c) (.inl 0)) 0 none ∗ some' (F := F) c (sqM 1))
      ⊢ iprop((owes (c : Thread nD τ) O W -∗ WP c k Q)
        -∗ WP c (.op (.semSignal ((n : Dev nD) : Thread nD τ) sem (1#32).toInt) fun _ => k) Q) := by
  subst hsem hn
  iintro ⟨#HI, HO, Ht, Hx⟩ Hk
  ihave ⟨#Hg, #Hr⟩ := recd_at m K (par c) (.inl 0) $$ HI
  iapply (wp_signal 𝒱₀ ER (Rd m) (c : Thread nD τ) none (dst := ((par c : Dev nD) : Thread nD τ)) (sem := barrier0) (r := 0) (k' := 1)
    (d := none) (κ := K (par c, .inl 0))
    (by rw [show ((((par c : Dev nD) : Thread nD τ), SemLoc.reg barrier0) : GSem nD τ sig) = cell (par c) (.inl 0) from rfl, duties_cell]
        show none ∈ Finset.univ.erase (some (gi (par c)))
        exact Finset.mem_erase.mpr ⟨Option.some_ne_none _ |>.symm, Finset.mem_univ _⟩)
    (by exact amount_cell m (par c) (.inl 0) _) () O rfl) $$ [HO Ht Hx]
  · isplitl []; · iexact Hg
    isplitl [HO]; · iexact HO
    isplitl [Ht]; · iexact Ht
    isplitl [Hx]
    · have e : (Rd m).payload (((par c : Dev nD) : Thread nD τ), SemLoc.reg barrier0) 0 none = _ := payload_cell m (par c) (.inl 0) none
      have e' : pay m (par c) none (.inl 0) = some' (F := F) c (sqM 1) := by
        show some' (par (par c)) (sqM 1) = _
        rw [par_par]
      ihave Hx' := (BIBase.Entails.of_eq (e'.symm.trans e.symm)) $$ Hx
      iexact Hx'
    · iexact Hr
  · iexact Hk

/-! ## The local copy -/

/-- The rows a device reads, in its block of the argument. -/
def xPt (c : Dev nD) : sProp 𝕄 := (xM c).view.loc (c : Thread nD τ) ↦[(xM c).view.set]{fullShare} m ((c : Thread nD τ).loc main_arg0)

theorem wp_localcopy (c : Dev nD) (sm : DmaSem sig) (hs : SemLoc.dma sm = sl (.inl 1)) {e1 : (xM c).view.WordExact} {e2 : vM.view.WordExact}
    {e3 : DmaTarget.Typed (nD := nD) (τ := τ) (p := (Proc.tc : Proc τ)) .hbm (.dma sm) (.here vM)} {α : Type} {Q : α → sProp 𝕄} {k : PR F α} :
    iprop(recd m K ∗ xPt m c ∗ some' (F := F) c vM ∗ dutyTok ER (cell c (.inl 1)) 0 none)
      ⊢ iprop((cred (tallyAt (cell c (.inl 1)) () Nx) -∗ WP c k Q)
        -∗ WP c (.op (.enqueueDma (xM c) (.here vM) (.dma sm) e1 e2 e3) fun _ => k) Q) := by
  have hc : cell c (.inl 1) = ((c : Thread nD τ), SemLoc.dma sm) := by rw [cell, hs]
  unfold some' owns xPt
  iintro ⟨#HI, Hx, ⟨%Y, %fd, %hfd, Hd⟩, Ht⟩ Hk
  ihave ⟨#Hg, #Hr⟩ := recd_at m K c (.inl 1) $$ HI
  have hm : (none : DD) ∈ (Rd (F := F) m).duties ((c : Thread nD τ), SemLoc.dma sm) 0 := by
    rw [← hc, duties_cell]; exact Finset.mem_singleton_self _
  have hk : (Rd (F := F) m).amount ((c : Thread nD τ), SemLoc.dma sm) 0 none = Nx := by rw [← hc, amount_cell]; rfl
  rw [hc]
  iapply (Rounds.wp_copy_pointsTo 𝒱₀ ER (Rd m) (c : Thread nD τ) none (κ := K (c, .inl 1)) (r := 0) (d := none)
    (fs := m ((c : Thread nD τ).loc main_arg0)) (fd := fd) hm () Nx rfl hk
    (by
      rw [← hc, payload_cell]
      show _ ⊢ copyPay m c
      unfold copyPay xrows
      have h := owns_intro (Ix := Unit) (Name := ℕ) (U := UU) (Lvl := ℕ) (c : Thread nD τ) vM fullShare
        (vM.view.write (Elt F) fd ((xM c).view.read (Elt F) (m ((c : Thread nD τ).loc main_arg0))) Finset.univ)
      rw [View.read_write_univ] at h
      exact sep_mono_left h)) $$ [Hx Hd Ht]
  · isplitl []; · iexact Hg
    isplitl [Hx]; · iexact Hx
    isplitl [Hd]; · iexact Hd
    isplitl [Ht]; · iexact Ht
    iexact Hr
  · iexact Hk

end Cert.KernelIdeal.Run

end
-- ==== Proof.Front.lean ====
module

public import proofs.«01_k».proof.Proof.Step

/-!
# The start of the body: the copy, the signals, and the wait for the others
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- What a device brings to the signal to place `p`: the right to raise that barrier, and its own rows of that place. -/
def sigT (c : Dev nD) (p : Fin 8) : sProp 𝕄 :=
  iprop(dutyTok ER (cell (at' c p) (.inl 0)) 0 (some (gi c)) ∗ oth c p (some' (F := F) c (rowsM p)))

abbrev w2 (c : Dev nD) : BitVec 32 := Scalar.remsi (Scalar.divsi (Dev.word c) 8#32) 2#32
abbrev w5 (c : Dev nD) : BitVec 32 := Scalar.remsi (Scalar.divsi (Dev.word c) 4#32) 2#32
abbrev w8 (c : Dev nD) : BitVec 32 := Scalar.remsi (Scalar.divsi (Dev.word c) 1#32) 4#32
abbrev w10 (c : Dev nD) : BitVec 32 := Scalar.addi (Scalar.muli (w2 c) 4#32) (w8 c)
abbrev w11 (c : Dev nD) : BitVec 32 := Scalar.subi 1#32 (w5 c)
abbrev w31 (c : Dev nD) : BitVec 32 := Scalar.extui (Scalar.cmpi .ne (w10 c) 3#32)
abbrev bS : Sems sig S_ := SemArray.scalar (sig.barrier 0 rfl)

theorem bS_sem : bS.sem = barrier0 := rfl
theorem par_dev (c : Dev nD) (h : k0_dev1 c < nD) : (⟨k0_dev1 c, h⟩ : Dev nD) = par c := by
  apply Fin.ext; revert h; revert c; decide

theorem wp_dev (c : Dev nD) {α : Type} {Q : α → sProp 𝕄} {k : Dev nD → PR F α} : WP c (k c) Q ⊢ WP c (.op .deviceId k) Q :=
  BIBase.Entails.of_eq (wp_deviceId 𝒱₀ (c : Thread nD τ) none Set.univ).symm

theorem wp_done (c : Dev nD) {α : Type} {Q : α → sProp 𝕄} {a : α} : Q a ⊢ WP c (.ret a) Q := by
  show Q a ⊢ wp frame (wpE (defs₀ (F := F)) 𝒱₀ (c : Thread nD τ) none) Set.univ (.ret a) Q
  rw [wp_ret]; iintro H; imodintro; iexact H

/-- The wait for the barrier's eight raises, at any spelling of the semaphore and the amount. -/
theorem wp_bar' (c : Dev nD) (sem : Sem sig) (hs : sem = barrier0) (n : ℤ) (hn : n = 8) (O : CellTallies nD τ sig Unit) (hO : High 1 O)
    {α : Type} {Q : α → sProp 𝕄} {k : PR F α} :
    iprop(recd m K ∗ levAts L lv ∗ (∃ W, owes (c : Thread nD τ) O W) ∗ cred (tallyAt (cell c (.inl 0)) () 8) ∗ atPos ER (cell c (.inl 0)) 0 ∅ 0)
      ⊢ iprop(((∃ W, owes (c : Thread nD τ) O W) ∗ (some' (F := F) (par c) (sqM 1) ∗ bigSep Finset.univ (fun p => oth c p (some' (F := F) (at' c p) (rowsM (gi c)))))
            ∗ semVal (cell c (.inl 0)) 0 -∗ WP c k Q)
        -∗ WP c (.op (.semWait sem n) fun _ => k) Q) := by
  subst hs hn; exact wp_bar m K c O hO

/-- The load of the copied rows. -/
theorem wp_load_v (c : Dev nD) (inb : ∀ a, (![0, 0] : Fin 2 → ℕ) a + S128x8192.size a ≤ S128x8192.size a) (X : Vec F S128x8192 .f32)
    {hl : vM.view.LoadsAt (Rect.unit (s := S128x8192) ![0, 0] S128x8192.size inb).toLoadRect}
    {α : Type} {Q : α → sProp 𝕄} {k : Vec F S128x8192 .f32 → PR F α} :
    owns (c : Thread nD τ) vM fullShare X
      ⊢ iprop((owns (c : Thread nD τ) vM fullShare X -∗ WP c (k X) Q)
        -∗ WP c (.op (.load vM (Rect.unit (s := S128x8192) ![0, 0] S128x8192.size inb).toLoadRect hl) k) Q) := by
  rw [owns_whole]
  have hz : (![0, 0] : Fin 2 → ℕ) = fun _ => 0 := by funext a; fin_cases a <;> rfl
  have h := wp_load (Ix := Unit) (Name := ℕ) (U := UU) (Lvl := ℕ) (defs := defs₀ (F := F)) 𝒱₀ (c : Thread nD τ) none Set.univ (Γ := ∅)
    (m := vM) (hl := hl) (k := k) (Q := Q) (q := fullShare) (f := X) (S := Finset.univ) (Finset.subset_univ _)
  rw [show vM.view.readAt (Elt F) (Rect.unit (s := S128x8192) ![0, 0] S128x8192.size inb).toLoadRect X = X from
    Memref.readAt_unit_zero (Elt F) cc0_scratch0 hz inb X] at h
  exact h

section
variable (c : Dev nD)

/-- The first part: the copy of the own rows, the signals to the partner and to the first places. -/
theorem wp_part1 {Q : _ → sProp 𝕄} :
    iprop(recd m K ∗ (∃ W, owes (c : Thread nD τ) (O₀ c) W) ∗ xPt m c ∗ some' (F := F) c vM ∗ dutyTok ER (cell c (.inl 1)) 0 none
        ∗ dutyTok ER (cell (par c) (.inl 0)) 0 none ∗ some' (F := F) c (sqM 1) ∗ sigT c 0 ∗ sigT c 1 ∗ sigT c 2)
      ⊢ iprop((cred (tallyAt (cell c (.inl 1)) () Nx) ∗ (∃ W, owes (c : Thread nD τ) (recs c + exO c + sigO c 7 + sigO c 6 + sigO c 5 + sigO c 4 + sigO c 3) W)
          -∗ Q ⟨c, w2 c, w5 c, w8 c, w10 c, w11 c, bS, w31 c⟩)
        -∗ WP c (k0_part1 (F := F) aM (Memref.isWhole_whole _) oM (Memref.isWhole_whole _) vM (Memref.isWhole_whole _) eM (Memref.isWhole_whole _) cc0_scratch2 cc0_scratch3 cc0_scratch4 cc0_scratch5 cc0_scratch6) Q) := by
  unfold sigT
  iintro ⟨#HI, ⟨%W, HO⟩, Hx, Hv, Ht1, Htp, Hs1, ⟨Ht0, Hr0⟩, ⟨Hta, Hra⟩, ⟨Htb, Hrb⟩⟩ Hk
  simp (config := {zeta := false}) only [k0_part1_eq_skeleton, k0_part1_skel, semSignalWord, semWaitWord, Prog.lift, Prog.bind_op, Prog.bind_ret, Prog.bind_assoc, Prog.pure_eq_ret]
  iapply wp_dev
  iapply (wp_localcopy m K c _ (by rw [sem_copy]; decide)) $$ [Hx Hv Ht1]
  · iframe HI; iframe
  iintro Hc
  unfold O₀
  iapply (wp_sigP m K c _ (par_dev c _) _ bS_sem (sigs c (recs c + exO c)) W) $$ [HO Htp Hs1]
  · iframe HI; iframe
  iintro HO
  unfold sigs
  iapply (wp_sig m K c 0 _ (by revert c; decide) (fun h => ⟨k0_dev2 c, k0_dev2_lt c h⟩) (by intro h; apply Fin.ext; revert c; decide) _ bS_sem _ W) $$ [HO Ht0 Hr0]
  · iframe HI; iframe
  iintro HO
  iapply (wp_sig m K c 1 _ (by revert c; decide) (fun h => ⟨k0_dev3 c, k0_dev3_lt c h⟩) (by intro h; apply Fin.ext; revert c; decide) _ bS_sem _ W) $$ [HO Hta Hra]
  · iframe HI; iframe
  iintro HO
  iapply (wp_sig m K c 2 _ (by revert c; decide) (fun h => ⟨k0_dev4 c, k0_dev4_lt c h⟩) (by intro h; apply Fin.ext; revert c; decide) _ bS_sem _ W) $$ [HO Htb Hrb]
  · iframe HI; iframe
  iintro HO
  iapply wp_done
  iapply Hk
  isplitl [Hc]; · iexact Hc
  iexists W; iexact HO

/-- The second part: the signals to the last places, the wait for everybody, the wait for the copy and its load. -/
theorem wp_part2 {Q : _ → sProp 𝕄} :
    iprop(recd m K ∗ levAts L lv ∗ (∃ W, owes (c : Thread nD τ) (recs c + exO c + sigO c 7 + sigO c 6 + sigO c 5 + sigO c 4 + sigO c 3) W)
        ∗ sigT c 3 ∗ sigT c 4 ∗ sigT c 5 ∗ sigT c 6 ∗ sigT c 7
        ∗ cred (tallyAt (cell c (.inl 0)) () 8) ∗ atPos ER (cell c (.inl 0)) 0 ∅ 0
        ∗ cred (tallyAt (cell c (.inl 1)) () Nx) ∗ atPos ER (cell c (.inl 1)) 0 ∅ 0)
      ⊢ iprop(((∃ W, owes (c : Thread nD τ) (recs c + exO c) W)
            ∗ (some' (F := F) (par c) (sqM 1) ∗ bigSep Finset.univ (fun p => oth c p (some' (F := F) (at' c p) (rowsM (gi c)))))
            ∗ copyPay m c ∗ semVal (cell c (.inl 0)) 0 ∗ semVal (cell c (.inl 1)) 0
          -∗ Q ⟨k0_pay1 (xrows m c), k0_pay2 (xrows m c), k0_pay3 (xrows m c)⟩)
        -∗ WP c (k0_part2 (F := F) aM (Memref.isWhole_whole _) oM (Memref.isWhole_whole _) vM (Memref.isWhole_whole _) eM (Memref.isWhole_whole _) cc0_scratch2 cc0_scratch3 cc0_scratch4 cc0_scratch5 cc0_scratch6
            c (w5 c) (w10 c) bS (w31 c)) Q) := by
  unfold sigT
  iintro ⟨#HI, #Hlev, ⟨%W, HO⟩, ⟨Ht3, Hr3⟩, ⟨Ht4, Hr4⟩, ⟨Ht5, Hr5⟩, ⟨Ht6, Hr6⟩, ⟨Ht7, Hr7⟩, Hcb, Hab, Hcc, Hac⟩ Hk
  simp (config := {zeta := false}) only [k0_part2_eq_skeleton, k0_part2_skel, semSignalWord, semWaitWord, Prog.lift, Prog.bind_op, Prog.bind_ret, Prog.bind_assoc, Prog.pure_eq_ret]
  iapply (wp_sig m K c 3 _ (by revert c; decide) (fun h => ⟨k0_dev5 c, k0_dev5_lt c h⟩) (by intro h; apply Fin.ext; revert c; decide) _ bS_sem _ W) $$ [HO Ht3 Hr3]
  · iframe HI; iframe
  iintro HO
  iapply (wp_sig m K c 4 _ (by revert c; decide) (fun h => ⟨k0_dev6 c, k0_dev6_lt c h⟩) (by intro h; apply Fin.ext; revert c; decide) _ bS_sem _ W) $$ [HO Ht4 Hr4]
  · iframe HI; iframe
  iintro HO
  iapply (wp_sig m K c 5 _ (by revert c; decide) (fun h => ⟨k0_dev7 c, k0_dev7_lt c h⟩) (by intro h; apply Fin.ext; revert c; decide) _ bS_sem _ W) $$ [HO Ht5 Hr5]
  · iframe HI; iframe
  iintro HO
  iapply (wp_sig m K c 6 _ (by revert c; decide) (fun h => ⟨k0_dev8 c, k0_dev8_lt c h⟩) (by intro h; apply Fin.ext; revert c; decide) _ bS_sem _ W) $$ [HO Ht6 Hr6]
  · iframe HI; iframe
  iintro HO
  iapply (wp_sig m K c 7 _ (by revert c; decide) (fun h => ⟨k0_dev9 c, k0_dev9_lt c h⟩) (by intro h; apply Fin.ext; revert c; decide) _ bS_sem _ W) $$ [HO Ht7 Hr7]
  · iframe HI; iframe
  iintro HO
  iapply (wp_bar' m K c _ bS_sem _ rfl (recs c + exO c) (high_ex c)) $$ [HO Hcb Hab]
  · iframe HI; iframe Hlev; iframe Hcb Hab; iexists W; iexact HO
  iintro ⟨HO, Hbar, Hvb⟩
  iapply (wp_wait_cell m K c (.inl 1) _ (by rw [sem_copy]; decide) rfl rfl (recs c + exO c) (High.mono (by decide) (high_ex c))) $$ [HO Hcc Hac]
  · iframe HI; iframe Hlev; iframe HO Hac; iexact Hcc
  iintro ⟨HO, Hp, Hvc⟩
  ihave Hp := (show pay m c none (.inl 1) ⊢ copyPay m c from BIBase.Entails.refl) $$ Hp
  unfold copyPay
  icases Hp with ⟨Hp, Hx⟩
  iapply (wp_load_v c _ (xrows m c)) $$ [Hp]
  · iexact Hp
  iintro Hp
  iapply wp_done
  iapply Hk
  iframe
end

end Cert.KernelIdeal.Run

end
-- ==== Proof.Exch.lean ====
module

public import proofs.«01_k».proof.Proof.Front

/-!
# The exchange with the partner
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

theorem ex_dev (c : Dev nD) (h : k0_dev10 c < nD) : (⟨k0_dev10 c, h⟩ : Dev nD) = par c := by
  apply Fin.ext; revert h; revert c; decide

section
variable (c : Dev nD)

/-- The last step of the selection; what is loaded is not used. -/
theorem wp_part40 (v198 : IVec S128x32 32) (v1772 v1776 v1780 v1784 v1788 : FVec F S128x128 .f32) (v1808 : FVec F S128x1 .f32)
    (v1813 : FVec F S128x32 .f32) (v1817 v1821 : FVec F S128x128 .f32) (v1823 : IVec S128x128 1) {Q : _ → sProp 𝕄} :
    some' (F := F) c (slabM 0)
      ⊢ iprop((∀ z, some' (F := F) c (slabM 0) -∗ Q ⟨k0_pay335 v198 v1772 v1776 v1780 v1784 v1788 v1808 v1813 v1817 v1821 v1823, z⟩)
        -∗ WP c (k0_part40 (F := F) aM (Memref.isWhole_whole _) oM (Memref.isWhole_whole _) vM (Memref.isWhole_whole _) eM (Memref.isWhole_whole _) cc0_scratch2 cc0_scratch3 cc0_scratch4 cc0_scratch5 cc0_scratch6
            v198 v1772 v1776 v1780 v1784 v1788 v1808 v1813 v1817 v1821 v1823) Q) := by
  unfold some'
  iintro ⟨%X, H⟩ Hk
  simp (config := {zeta := false}) only [k0_part40_eq_skeleton, k0_part40_skel, Prog.lift, Prog.bind_op, Prog.bind_ret, Prog.bind_assoc, Prog.pure_eq_ret]
  iapply (wp_load_own c eM (slabR 0) (fun _ => rfl) fullShare X) $$ [H]
  · iexact H
  iintro H
  iapply wp_done
  ispecialize Hk $$ %X
  iapply Hk
  iexists X; iexact H

set_option maxHeartbeats 2000000 in
/-- The device's own list is stored, sent to the partner, and the partner's received. -/
theorem wp_part41 (z : Vec F S1x128x32 .f32) {Q : _ → sProp 𝕄} :
    iprop(recd m K ∗ levAts L lv ∗ (∃ W, owes (c : Thread nD τ) (recs c + exO c) W)
        ∗ dutyTok ER (cell (par c) (.inl 3)) 0 none ∗ dutyTok ER (cell c (.inl 2)) 0 none
        ∗ some' (F := F) (par c) (sqM 1) ∗ some' (F := F) c (slabM 0)
        ∗ atPos ER (cell c (.inl 2)) 0 ∅ 0 ∗ cred (tallyAt (cell c (.inl 3)) () N) ∗ atPos ER (cell c (.inl 3)) 0 ∅ 0)
      ⊢ iprop(((∃ W, owes (c : Thread nD τ) (recs c) W)
            ∗ owns (c : Thread nD τ) (slabM 0) fullShare (lst m c) ∗ owns (c : Thread nD τ) (slabM 1) fullShare (lst m (par c))
            ∗ semVal (cell c (.inl 2)) 0 ∗ semVal (cell c (.inl 3)) 0
          -∗ Q ⟨⟩)
        -∗ WP c (k0_part41 (F := F) aM (Memref.isWhole_whole _) oM (Memref.isWhole_whole _) vM (Memref.isWhole_whole _) eM (Memref.isWhole_whole _) cc0_scratch2 cc0_scratch3 cc0_scratch4 cc0_scratch5 cc0_scratch6
            c (w2 c) (w8 c) (w11 c) (chunkTop (xrows m c)) z) Q) := by
  unfold exO
  iintro ⟨#HI, #Hlev, ⟨%W, HO⟩, Ht, Ht', Hs1, Hs0, Has, Hcr, Har⟩ Hk
  simp (config := {zeta := false}) only [k0_part41_eq_skeleton, k0_part41_skel, Prog.lift, Prog.bind_op, Prog.bind_ret, Prog.bind_assoc, Prog.pure_eq_ret]
  iapply (wp_store_own c eM (slabR 0) (fun _ => rfl) (k0_pay336 (chunkTop (xrows m c)))) $$ [Hs0]
  · iexact Hs0
  iintro Hs0
  ihave Hs0 := (owns_squeeze c 0 fullShare (lst m c)) $$ [Hs0]
  · iexact Hs0
  iapply (wp_send_own m K c (par c) _ (ex_dev c _) (sqM 0) (sqM 1) (.inl 2) (.inl 3) _ _ (by rw [sem_exS]; decide) (by rw [sem_exR]; decide) fullShare
    (sqv (lst m c)) rfl rfl rfl rfl rfl rfl (by show exRPay m (par c) = _; unfold exRPay; rw [par_par]) (recs c) W) $$ [HO Ht Ht' Hs1 Hs0]
  · iframe HI; iframe
  iintro ⟨HO, Hcs⟩
  iapply (wp_wait_cell m K c (.inl 2) _ (by rw [sem_exS]; decide) (src := sqM 1) (dst := sqM 0) rfl rfl (recs c) (High.mono (by decide) (high_recs c))) $$ [HO Hcs Has]
  · iframe HI; iframe Hlev; iframe Has; isplitl [HO]; · iexists W; iexact HO
    iexact Hcs
  iintro ⟨HO, Hp, Hvs⟩
  iapply (wp_wait_cell m K c (.inl 3) _ (by rw [sem_exR]; decide) (src := sqM 0) (dst := sqM 1) rfl rfl (recs c) (high_recs c)) $$ [HO Hcr Har]
  · iframe HI; iframe Hlev; iframe HO Har; iexact Hcr
  iintro ⟨HO, Hp', Hvr⟩
  ihave Hp := (show pay m c none (.inl 2) ⊢ exSPay m c from BIBase.Entails.refl) $$ Hp
  ihave Hp' := (show pay m c none (.inl 3) ⊢ exRPay m c from BIBase.Entails.refl) $$ Hp'
  unfold exSPay exRPay
  ihave Hp := (owns_unsqueeze c 0 fullShare (lst m c)) $$ Hp
  ihave Hp' := (owns_unsqueeze c 1 fullShare (lst m (par c))) $$ Hp'
  iapply wp_done
  iapply Hk
  iframe

/-- The two lists are loaded and the merge begins. -/
theorem wp_part42 {Q : _ → sProp 𝕄} :
    iprop(owns (c : Thread nD τ) (slabM 0) fullShare (lst m c) ∗ owns (c : Thread nD τ) (slabM 1) fullShare (lst m (par c)))
      ⊢ iprop((owns (c : Thread nD τ) (slabM 0) fullShare (lst m c) ∗ owns (c : Thread nD τ) (slabM 1) fullShare (lst m (par c))
          -∗ Q ⟨cols, k0_pay343 (lst m c) (lst m (par c)), k0_pay344 (lst m c) (lst m (par c)), k0_pay345 (lst m c) (lst m (par c)), k0_pay346 (lst m c) (lst m (par c))⟩)
        -∗ WP c (k0_part42 (F := F) aM (Memref.isWhole_whole _) oM (Memref.isWhole_whole _) vM (Memref.isWhole_whole _) eM (Memref.isWhole_whole _) cc0_scratch2 cc0_scratch3 cc0_scratch4 cc0_scratch5 cc0_scratch6) Q) := by
  unfold cols
  iintro ⟨H0, H1⟩ Hk
  simp (config := {zeta := false}) only [k0_part42_eq_skeleton, k0_part42_skel, Prog.lift, Prog.bind_op, Prog.bind_ret, Prog.bind_assoc, Prog.pure_eq_ret]
  iapply (wp_load_own c eM (slabR 0) (fun _ => rfl) fullShare (lst m c)) $$ [H0]
  · iexact H0
  iintro H0
  iapply (wp_load_own c eM (slabR 1) (fun _ => rfl) fullShare (lst m (par c))) $$ [H1]
  · iexact H1
  iintro H1
  iapply wp_done
  iapply Hk
  iframe
end

end Cert.KernelIdeal.Run

end
-- ==== Proof.Gather.lean ====
module

public import proofs.«01_k».proof.Proof.Exch

/-!
# The gathering: the merged rows are stored and sent to the seven others, theirs are received
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

theorem rows_off (c : Dev nD) : (![512 * (c.val / 8) + 128 * (c.val % 4), 0] : Fin 2 → ℕ) = ![128 * (gi c).val, 0] := by
  have : 512 * (c.val / 8) + 128 * (c.val % 4) = 128 * (gi c).val := by show _ = 128 * (4 * (c.val / 8) + c.val % 4); omega
  rw [this]

/-- The send and receive semaphores, as the sends and waits spell them. -/
theorem at_gS (p : Fin 8) : SemLoc.dma ((cc0_scratch5.slice (Rect.unit (s := S8) ![p.val] S1.size (one_inb p))).squeeze S_ squeezes_S1_S_).sem
    = sl (.inr (.inl p)) := (congrArg _ (sem_gS p)).trans (by revert p; decide)
theorem at_gR (p : Fin 8) (off : Fin 1 → ℕ) (h : off = ![p.val]) (inb : ∀ a, off a + S1.size a ≤ S8.size a) :
    SemLoc.dma ((cc0_scratch6.slice (Rect.unit (s := S8) off S1.size inb)).squeeze S_ squeezes_S1_S_).sem = sl (.inr (.inr p)) := by
  subst h; exact (congrArg _ (sem_gR p)).trans (by revert p; decide)

/-- Loads and stores at a place's rows, at any spelling of the offsets. -/
theorem rows_at (p : Fin 8) (off : Fin 2 → ℕ) (h : off = ![128 * p.val, 0]) (inb : ∀ a, off a + S128x32.size a ≤ S1024x32.size a) :
    oM.slice (Rect.unit (s := S1024x32) off S128x32.size inb) (fun _ => rfl) = rowsM p := by subst h; rfl

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]; rfl

section
variable (c : Dev nD)

/-- What a device brings to the send to place `p`: the two rights to raise, and the destination's rows. -/
def sendT (p : Fin 8) : sProp 𝕄 :=
  iprop(dutyTok ER (cell (at' c p) (.inr (.inr (gi c)))) 0 none ∗ dutyTok ER (cell c (.inr (.inl p))) 0 none
    ∗ oth c p (some' (F := F) (at' c p) (rowsM (gi c))))
/-- What it brings to the wait for the rows of place `p`. -/
def recvT (p : Fin 8) : sProp 𝕄 :=
  iprop(cred (tallyAt (cell c (.inr (.inr p))) () (if p = gi c then 0 else N)) ∗ atPos ER (cell c (.inr (.inr p))) 0 ∅ 0)
/-- What that wait gives. -/
def recvD (p : Fin 8) : sProp 𝕄 := iprop(oth c p (gRPay m c p) ∗ semVal (cell c (.inr (.inr p))) 0)
/-- What the wait for the end of the send to place `p` needs and gives. -/
def sentT (p : Fin 8) : sProp 𝕄 := iprop(sent m c p ∗ atPos ER (cell c (.inr (.inl p))) 0 ∅ 0)
def sentD (p : Fin 8) : sProp 𝕄 := iprop(gSPay m c p ∗ semVal (cell c (.inr (.inl p))) 0)

/-- The own merged rows, dealt out to the eight sends. -/
theorem deal : owns (c : Thread nD τ) (rowsM (gi c)) fullShare (mg m c) ⊣⊢ bigSep Finset.univ (fun p => gSPay m c p) :=
  ownsSat_pieces (c : Thread nD τ) (rowsM (gi c)) (· = mg m c) 8 (by decide) fullShare

set_option maxHeartbeats 2000000 in
/-- The merged rows are stored and the first six sends start. -/
theorem wp_part54 {Q : _ → sProp 𝕄} (v1899 : IVec S128x32 32) (v2439 v2449 v2453 : FVec F S128x32 .f32) (v2455 : IVec S128x32 1)
    (hv : k0_pay454 v1899 v2439 v2449 v2453 v2455 = mg m c) :
    iprop(recd m K ∗ (∃ W, owes (c : Thread nD τ) (recs c) W) ∗ some' (F := F) c (rowsM (gi c))
        ∗ sendT c 0 ∗ sendT c 1 ∗ sendT c 2 ∗ sendT c 3 ∗ sendT c 4 ∗ sendT c 5)
      ⊢ iprop(((∃ W, owes (c : Thread nD τ) (0 + recO c 7 + recO c 6) W) ∗ sent m c 0 ∗ sent m c 1 ∗ sent m c 2 ∗ sent m c 3 ∗ sent m c 4 ∗ sent m c 5 ∗ gSPay m c 6 ∗ gSPay m c 7
          -∗ Q (Scalar.cmpi .ne (w10 c) 6#32))
        -∗ WP c (k0_part54 (F := F) aM (Memref.isWhole_whole _) oM (Memref.isWhole_whole _) vM (Memref.isWhole_whole _) eM (Memref.isWhole_whole _) cc0_scratch2 cc0_scratch3 cc0_scratch4 cc0_scratch5 cc0_scratch6
            c (w5 c) (w10 c) v1899 v2439 v2449 v2453 v2455) Q) := by
  iintro ⟨#HI, ⟨%W, HO⟩, Hr, T0, T1, T2, T3, T4, T5⟩ Hk
  simp (config := {zeta := false}) only [k0_part54_eq_skeleton, k0_part54_skel, Prog.lift, Prog.bind_op, Prog.bind_ret, Prog.bind_assoc, Prog.pure_eq_ret]
  ihave Hr := (show some' (F := F) c (rowsM (gi c)) ⊢ iprop(∃ X, owns (c : Thread nD τ) (rowsM (gi c)) fullShare X) from BIBase.Entails.refl) $$ Hr
  icases Hr with ⟨%X, Hr⟩
  have e := rows_at (gi c) (k0_off2 c) ((k0_off2_eq c).trans (rows_off c)) (k0_off2_inb c)
  rw [← e]
  iapply (wp_load_own c oM (Rect.unit (s := S1024x32) (k0_off2 c) S128x32.size (k0_off2_inb c)) (fun _ => rfl) fullShare X) $$ [Hr]
  · iexact Hr
  iintro Hr
  rw [hv]
  iapply (wp_store_own c oM (Rect.unit (s := S1024x32) (k0_off2 c) S128x32.size (k0_off2_inb c)) (fun _ => rfl) (mg m c)) $$ [Hr]
  · unfold some'; iexists X; iexact Hr
  iintro Hr
  have e' : owns (Ix := Unit) (Name := ℕ) (U := UU) (Lvl := ℕ) (c : Thread nD τ) (oM.slice (Rect.unit (s := S1024x32) (k0_off2 c) S128x32.size (k0_off2_inb c)) (fun _ => rfl)) fullShare (mg m c)
      ⊢ bigSep Finset.univ (fun p => gSPay m c p) := by rw [e]; exact (deal m c).1
  ihave Hr := e' $$ Hr
  ihave Hr := (BIBase.Entails.of_eq (bigSep_eight _)) $$ Hr
  icases Hr with ⟨P0, P1, P2, P3, P4, P5, P6, P7⟩
  unfold recs
  iapply (wp_gsend m K c 0 _ (by clear * - c; revert c; decide) (fun h => ⟨k0_dev11 c, k0_dev11_lt c h⟩) (by clear * - c; intro h; apply Fin.ext; revert c; decide)
    _ ((k0_off4_eq c).trans (rows_off c)) _ _ (at_gS 0) _ (fun _ => at_gR (gi c) _ (k0_off3_eq c) _) _ W) $$ [HO T0 P0]
  · unfold sendT; icases T0 with ⟨A, B, C⟩; iframe HI; iframe HO A B C P0
  iintro ⟨HO, S0⟩
  iapply (wp_gsend m K c 1 _ (by clear * - c; revert c; decide) (fun h => ⟨k0_dev12 c, k0_dev12_lt c h⟩) (by clear * - c; intro h; apply Fin.ext; revert c; decide)
    _ ((k0_off6_eq c).trans (rows_off c)) _ _ (at_gS 1) _ (fun _ => at_gR (gi c) _ (k0_off5_eq c) _) _ W) $$ [HO T1 P1]
  · unfold sendT; icases T1 with ⟨A, B, C⟩; iframe HI; iframe HO A B C P1
  iintro ⟨HO, S1⟩
  iapply (wp_gsend m K c 2 _ (by clear * - c; revert c; decide) (fun h => ⟨k0_dev13 c, k0_dev13_lt c h⟩) (by clear * - c; intro h; apply Fin.ext; revert c; decide)
    _ ((k0_off8_eq c).trans (rows_off c)) _ _ (at_gS 2) _ (fun _ => at_gR (gi c) _ (k0_off7_eq c) _) _ W) $$ [HO T2 P2]
  · unfold sendT; icases T2 with ⟨A, B, C⟩; iframe HI; iframe HO A B C P2
  iintro ⟨HO, S2⟩
  iapply (wp_gsend m K c 3 _ (by clear * - c; revert c; decide) (fun h => ⟨k0_dev14 c, k0_dev14_lt c h⟩) (by clear * - c; intro h; apply Fin.ext; revert c; decide)
    _ ((k0_off10_eq c).trans (rows_off c)) _ _ (at_gS 3) _ (fun _ => at_gR (gi c) _ (k0_off9_eq c) _) _ W) $$ [HO T3 P3]
  · unfold sendT; icases T3 with ⟨A, B, C⟩; iframe HI; iframe HO A B C P3
  iintro ⟨HO, S3⟩
  iapply (wp_gsend m K c 4 _ (by clear * - c; revert c; decide) (fun h => ⟨k0_dev15 c, k0_dev15_lt c h⟩) (by clear * - c; intro h; apply Fin.ext; revert c; decide)
    _ ((k0_off12_eq c).trans (rows_off c)) _ _ (at_gS 4) _ (fun _ => at_gR (gi c) _ (k0_off11_eq c) _) _ W) $$ [HO T4 P4]
  · unfold sendT; icases T4 with ⟨A, B, C⟩; iframe HI; iframe HO A B C P4
  iintro ⟨HO, S4⟩
  iapply (wp_gsend m K c 5 _ (by clear * - c; revert c; decide) (fun h => ⟨k0_dev16 c, k0_dev16_lt c h⟩) (by clear * - c; intro h; apply Fin.ext; revert c; decide)
    _ ((k0_off14_eq c).trans (rows_off c)) _ _ (at_gS 5) _ (fun _ => at_gR (gi c) _ (k0_off13_eq c) _) _ W) $$ [HO T5 P5]
  · unfold sendT; icases T5 with ⟨A, B, C⟩; iframe HI; iframe HO A B C P5
  iintro ⟨HO, S5⟩
  iapply wp_done
  iapply Hk
  isplitl [HO]; · iexists W; iexact HO
  iframe

set_option maxHeartbeats 2000000 in
/-- The last two sends start, and the rows of the other places are received. -/
theorem wp_part55 {Q : _ → sProp 𝕄} :
    iprop(recd m K ∗ levAts L lv ∗ (∃ W, owes (c : Thread nD τ) (0 + recO c 7 + recO c 6) W)
        ∗ sendT c 6 ∗ sendT c 7 ∗ gSPay m c 6 ∗ gSPay m c 7 ∗ recvT c 0 ∗ recvT c 1 ∗ recvT c 2 ∗ recvT c 3 ∗ recvT c 4 ∗ recvT c 5 ∗ recvT c 6 ∗ recvT c 7)
      ⊢ iprop(((∃ W, owes (c : Thread nD τ) 0 W) ∗ sent m c 6 ∗ sent m c 7 ∗ recvD m c 0 ∗ recvD m c 1 ∗ recvD m c 2 ∗ recvD m c 3 ∗ recvD m c 4 ∗ recvD m c 5 ∗ recvD m c 6 ∗ recvD m c 7
          -∗ Q (Scalar.cmpi .ne (w10 c) 0#32))
        -∗ WP c (k0_part55 (F := F) aM (Memref.isWhole_whole _) oM (Memref.isWhole_whole _) vM (Memref.isWhole_whole _) eM (Memref.isWhole_whole _) cc0_scratch2 cc0_scratch3 cc0_scratch4 cc0_scratch5 cc0_scratch6
            c (w5 c) (w10 c) (Scalar.cmpi .ne (w10 c) 6#32)) Q) := by
  iintro ⟨#HI, #Hlev, ⟨%W, HO⟩, T6, T7, P6, P7, R0, R1, R2, R3, R4, R5, R6, R7⟩ Hk
  simp (config := {zeta := false}) only [k0_part55_eq_skeleton, k0_part55_skel, Prog.lift, Prog.bind_op, Prog.bind_ret, Prog.bind_assoc, Prog.pure_eq_ret]
  iapply (wp_gsend m K c 6 _ (by clear * - c; revert c; decide) (fun h => ⟨k0_dev17 c, k0_dev17_lt c h⟩) (by clear * - c; intro h; apply Fin.ext; revert c; decide)
    _ ((k0_off16_eq c).trans (rows_off c)) _ _ (at_gS 6) _ (fun _ => at_gR (gi c) _ (k0_off15_eq c) _) _ W) $$ [HO T6 P6]
  · unfold sendT; icases T6 with ⟨A, B, C⟩; iframe HI; iframe HO A B C P6
  iintro ⟨HO, S6⟩
  iapply (wp_gsend m K c 7 _ (by clear * - c; revert c; decide) (fun h => ⟨k0_dev18 c, k0_dev18_lt c h⟩) (by clear * - c; intro h; apply Fin.ext; revert c; decide)
    _ ((k0_off18_eq c).trans (rows_off c)) _ _ (at_gS 7) _ (fun _ => at_gR (gi c) _ (k0_off17_eq c) _) _ W) $$ [HO T7 P7]
  · unfold sendT; icases T7 with ⟨A, B, C⟩; iframe HI; iframe HO A B C P7
  iintro ⟨HO, S7⟩
  ihave HO := (show owes (Ix := Unit) (Name := ℕ) (U := UU) (Lvl := ℕ) (Val := Elt F) (c : Thread nD τ) 0 W ⊢ iprop(∃ W, owes (c : Thread nD τ) 0 W) by iintro H; iexists W; iexact H) $$ HO
  iapply (wp_grecv m K c 0 _ (by clear * - c; revert c; decide) _ (at_gR 0 _ rfl _) (src := fun _ => rowsM 0) (dst := fun _ => rowsM 0) (fun _ => rfl)) $$ [HO R0]
  · unfold recvT; icases R0 with ⟨A, B⟩; iframe HI; iframe Hlev; iframe HO A B
  iintro ⟨HO, G0⟩
  iapply (wp_grecv m K c 1 _ (by clear * - c; revert c; decide) _ (at_gR 1 _ rfl _) (src := fun _ => rowsM 1) (dst := fun _ => rowsM 1) (fun _ => rfl)) $$ [HO R1]
  · unfold recvT; icases R1 with ⟨A, B⟩; iframe HI; iframe Hlev; iframe HO A B
  iintro ⟨HO, G1⟩
  iapply (wp_grecv m K c 2 _ (by clear * - c; revert c; decide) _ (at_gR 2 _ rfl _) (src := fun _ => rowsM 2) (dst := fun _ => rowsM 2) (fun _ => rfl)) $$ [HO R2]
  · unfold recvT; icases R2 with ⟨A, B⟩; iframe HI; iframe Hlev; iframe HO A B
  iintro ⟨HO, G2⟩
  iapply (wp_grecv m K c 3 _ (by clear * - c; revert c; decide) _ (at_gR 3 _ rfl _) (src := fun _ => rowsM 3) (dst := fun _ => rowsM 3) (fun _ => rfl)) $$ [HO R3]
  · unfold recvT; icases R3 with ⟨A, B⟩; iframe HI; iframe Hlev; iframe HO A B
  iintro ⟨HO, G3⟩
  iapply (wp_grecv m K c 4 _ (by clear * - c; revert c; decide) _ (at_gR 4 _ rfl _) (src := fun _ => rowsM 4) (dst := fun _ => rowsM 4) (fun _ => rfl)) $$ [HO R4]
  · unfold recvT; icases R4 with ⟨A, B⟩; iframe HI; iframe Hlev; iframe HO A B
  iintro ⟨HO, G4⟩
  iapply (wp_grecv m K c 5 _ (by clear * - c; revert c; decide) _ (at_gR 5 _ rfl _) (src := fun _ => rowsM 5) (dst := fun _ => rowsM 5) (fun _ => rfl)) $$ [HO R5]
  · unfold recvT; icases R5 with ⟨A, B⟩; iframe HI; iframe Hlev; iframe HO A B
  iintro ⟨HO, G5⟩
  iapply (wp_grecv m K c 6 _ (by clear * - c; revert c; decide) _ (at_gR 6 _ rfl _) (src := fun _ => rowsM 6) (dst := fun _ => rowsM 6) (fun _ => rfl)) $$ [HO R6]
  · unfold recvT; icases R6 with ⟨A, B⟩; iframe HI; iframe Hlev; iframe HO A B
  iintro ⟨HO, G6⟩
  iapply (wp_grecv m K c 7 _ (by clear * - c; revert c; decide) _ (at_gR 7 _ rfl _) (src := fun _ => rowsM 7) (dst := fun _ => rowsM 7) (fun _ => rfl)) $$ [HO R7]
  · unfold recvT; icases R7 with ⟨A, B⟩; iframe HI; iframe Hlev; iframe HO A B
  iintro ⟨HO, G7⟩
  iapply wp_done
  iapply Hk
  unfold recvD
  iframe
end

end Cert.KernelIdeal.Run

end
-- ==== Proof.Parts.lean ====
module

public import proofs.«01_k».proof.Proof.Top

/-!
# What each stretch of arithmetic in the body computes

The body computes in two long stretches, one over the rows it copied in and one over the two candidate
lists. Each printed piece of a stretch, run on the closed form its predecessor left, leaves the next
closed form.
-/

@[expose] public section

noncomputable section

namespace Cert.KernelIdeal.Top

open Idealize.ShloMosaic Idealize.SL.Sem
open Cert.KernelIdeal.Gen

variable {F : FTy → Type} [FloatOps F]

section
variable (arg0 : Memref sig .tc .hbm S1024x8192 .f32) (harg0 : arg0.IsWhole) (arg1 : Memref sig .tc .vmem S1024x32 .f32) (harg1 : arg1.IsWhole) (arg2 : Memref sig .tc .vmem S128x8192 .f32) (harg2 : arg2.IsWhole) (arg3 : Memref sig .tc .vmem S2x128x32 .f32) (harg3 : arg3.IsWhole) (arg4 : DmaSems sig S_) (arg5 : DmaSems sig S_) (arg6 : DmaSems sig S_) (arg7 : DmaSems sig S8) (arg8 : DmaSems sig S8)
variable (v : Vec F S128x8192 .f32) (w0 w1 : Vec F S1x128x32 .f32)

set_option maxRecDepth 65536

theorem pay1_val : k0_pay1 v = (cand v 0) := rfl

theorem pay2_val : k0_pay2 v = (strip v 1) := rfl

theorem pay3_val : k0_pay3 v = (extractStridedSlice S128x4096 ![0, 0] (strip v 1) slices_S128x8192_o0_0_S128x4096) := rfl

theorem pay335_val : k0_pay335 cols (arrA (cand v) 30 2) (arrA (cand v) 30 3) (arrA (cand v) 30 4) (arrA (cand v) 30 5) (arrA (cand v) 30 6) (mxA (arrA (cand v) 30)) (outsA (cand v) 31) (arrA (cand v) 31 0) (arrA (cand v) 31 1) (cmpf .oeq (arrA (cand v) 30 2) (broadcastTo S128x128 (mxA (arrA (cand v) 30)) broadcasts_S128x1_S128x128)) = chunkTop v := rfl

theorem pay343_val : k0_pay343 w0 w1 = (outsB (pair w0 w1) 2) := rfl

theorem pay344_val : k0_pay344 w0 w1 = (arrB (pair w0 w1) 2 0) := rfl

theorem pay345_val : k0_pay345 w0 w1 = (arrB (pair w0 w1) 2 1) := rfl

theorem pay346_val : k0_pay346 w0 w1 = (rowMaxB (arrB (pair w0 w1) 2 0)) := rfl

theorem pay454_val : k0_pay454 cols (arrB (pair w0 w1) 30 1) (outsB (pair w0 w1) 31) (arrB (pair w0 w1) 31 0) (cmpf .oeq (arrB (pair w0 w1) 30 1) (broadcastTo S128x32 (mxB (arrB (pair w0 w1) 30)) broadcasts_S128x1_S128x32)) = merge w0 w1 := rfl

theorem part3_val : k0_part3 (F := F) arg0 harg0 arg1 harg1 arg2 harg2 arg3 harg3 arg4 arg5 arg6 arg7 arg8
    (strip v 1) (extractStridedSlice S128x4096 ![0, 0] (strip v 1) slices_S128x8192_o0_0_S128x4096)
    = pure ⟨(cand v 1), (cand v 2), (strip v 3), (h256 (strip v 3))⟩ := by rw [k0_part3_eq_skeleton]; rfl

theorem part4_val : k0_part4 (F := F) arg0 harg0 arg1 harg1 arg2 harg2 arg3 harg3 arg4 arg5 arg6 arg7 arg8
    (strip v 3) (h256 (strip v 3))
    = pure ⟨(cand v 3), (cand v 4), (cand v 5), (h2048 (strip v 6))⟩ := by rw [k0_part4_eq_skeleton]; rfl

theorem part5_val : k0_part5 (F := F) arg0 harg0 arg1 harg1 arg2 harg2 arg3 harg3 arg4 arg5 arg6 arg7 arg8
    (cand v 0) (cand v 1) (cand v 2) (cand v 3) (cand v 4) (cand v 5) (h2048 (strip v 6))
    = pure ⟨(cand v 6), cols, (mxA (arrA (cand v) 0)), (outsA (cand v) 1), (arrA (cand v) 1 0), (arrA (cand v) 1 1), (cmpf .oeq (cand v 2) (broadcastTo S128x128 (mxA (arrA (cand v) 0)) broadcasts_S128x1_S128x128))⟩ := by rw [k0_part5_eq_skeleton]; rfl

theorem part6_val : k0_part6 (F := F) arg0 harg0 arg1 harg1 arg2 harg2 arg3 harg3 arg4 arg5 arg6 arg7 arg8
    (cand v 2) (cand v 3) (cand v 4) (cand v 5) (cand v 6) cols (mxA (arrA (cand v) 0)) (outsA (cand v) 1) (arrA (cand v) 1 0) (arrA (cand v) 1 1) (cmpf .oeq (cand v 2) (broadcastTo S128x128 (mxA (arrA (cand v) 0)) broadcasts_S128x1_S128x128))
    = pure ⟨(arrA (cand v) 1 2), (arrA (cand v) 1 3), (arrA (cand v) 1 4), (arrA (cand v) 1 5), (arrA (cand v) 1 6), (mxA (arrA (cand v) 1)), (outsA (cand v) 2), (cmpf .oeq (arrA (cand v) 1 0) (broadcastTo S128x128 (mxA (arrA (cand v) 1)) broadcasts_S128x1_S128x128)), (broadcast S128x128 ninf)⟩ := by rw [k0_part6_eq_skeleton]; rfl

theorem part7_val : k0_part7 (F := F) arg0 harg0 arg1 harg1 arg2 harg2 arg3 harg3 arg4 arg5 arg6 arg7 arg8
    (arrA (cand v) 1 0) (arrA (cand v) 1 1) (arrA (cand v) 1 2) (arrA (cand v) 1 3) (arrA (cand v) 1 4) (arrA (cand v) 1 5) (arrA (cand v) 1 6) (mxA (arrA (cand v) 1)) (cmpf .oeq (arrA (cand v) 1 0) (broadcastTo S128x128 (mxA (arrA (cand v) 1)) broadcasts_S128x1_S128x128)) (broadcast S128x128 ninf)
    = pure ⟨(arrA (cand v) 2 0), (arrA (cand v) 2 1), (arrA (cand v) 2 2), (arrA (cand v) 2 3), (arrA (cand v) 2 4), (arrA (cand v) 2 5), (arrA (cand v) 2 6), (mxA (arrA (cand v) 2)), (broadcast S128x32 2#32)⟩ := by rw [k0_part7_eq_skeleton]; rfl

theorem part8_val : k0_part8 (F := F) arg0 harg0 arg1 harg1 arg2 harg2 arg3 harg3 arg4 arg5 arg6 arg7 arg8
    cols (outsA (cand v) 2) (arrA (cand v) 2 0) (arrA (cand v) 2 1) (arrA (cand v) 2 2) (arrA (cand v) 2 3) (arrA (cand v) 2 4) (arrA (cand v) 2 5) (arrA (cand v) 2 6) (mxA (arrA (cand v) 2)) (broadcast S128x32 2#32)
    = pure ⟨(outsA (cand v) 3), (arrA (cand v) 3 0), (arrA (cand v) 3 1), (arrA (cand v) 3 2), (arrA (cand v) 3 3), (arrA (cand v) 3 4), (arrA (cand v) 3 5), (arrA (cand v) 3 6), (maximumf (maximumf (maximumf (maximumf (rowMaxA (arrA (cand v) 3 0)) (rowMaxA (arrA (cand v) 3 1))) (rowMaxA (arrA (cand v) 3 2))) (rowMaxA (arrA (cand v) 3 3))) (rowMaxA (arrA (cand v) 3 4))), (multiReduction .maximumf [1] S128 (arrA (cand v) 3 5) 0xFF800000#32 reduces_S128x128_S128 (.inl rfl) rfl)⟩ := by rw [k0_part8_eq_skeleton]; rfl

theorem part9_val : k0_part9 (F := F) arg0 harg0 arg1 harg1 arg2 harg2 arg3 harg3 arg4 arg5 arg6 arg7 arg8
    cols (outsA (cand v) 3) (arrA (cand v) 3 0) (arrA (cand v) 3 1) (arrA (cand v) 3 2) (arrA (cand v) 3 3) (arrA (cand v) 3 4) (arrA (cand v) 3 5) (arrA (cand v) 3 6) (maximumf (maximumf (maximumf (maximumf (rowMaxA (arrA (cand v) 3 0)) (rowMaxA (arrA (cand v) 3 1))) (rowMaxA (arrA (cand v) 3 2))) (rowMaxA (arrA (cand v) 3 3))) (rowMaxA (arrA (cand v) 3 4))) (multiReduction .maximumf [1] S128 (arrA (cand v) 3 5) 0xFF800000#32 reduces_S128x128_S128 (.inl rfl) rfl)
    = pure ⟨(outsA (cand v) 4), (arrA (cand v) 4 0), (arrA (cand v) 4 1), (arrA (cand v) 4 2), (arrA (cand v) 4 3), (arrA (cand v) 4 4), (arrA (cand v) 4 5), (arrA (cand v) 4 6), (maximumf (maximumf (rowMaxA (arrA (cand v) 4 0)) (rowMaxA (arrA (cand v) 4 1))) (rowMaxA (arrA (cand v) 4 2))), (multiReduction .maximumf [1] S128 (arrA (cand v) 4 3) 0xFF800000#32 reduces_S128x128_S128 (.inl rfl) rfl)⟩ := by rw [k0_part9_eq_skeleton]; rfl

theorem part10_val : k0_part10 (F := F) arg0 harg0 arg1 harg1 arg2 harg2 arg3 harg3 arg4 arg5 arg6 arg7 arg8
    cols (outsA (cand v) 4) (arrA (cand v) 4 0) (arrA (cand v) 4 1) (arrA (cand v) 4 2) (arrA (cand v) 4 3) (arrA (cand v) 4 4) (arrA (cand v) 4 5) (arrA (cand v) 4 6) (maximumf (maximumf (rowMaxA (arrA (cand v) 4 0)) (rowMaxA (arrA (cand v) 4 1))) (rowMaxA (arrA (cand v) 4 2))) (multiReduction .maximumf [1] S128 (arrA (cand v) 4 3) 0xFF800000#32 reduces_S128x128_S128 (.inl rfl) rfl)
    = pure ⟨(outsA (cand v) 5), (arrA (cand v) 5 0), (arrA (cand v) 5 1), (arrA (cand v) 5 2), (arrA (cand v) 5 3), (arrA (cand v) 5 4), (arrA (cand v) 5 5), (arrA (cand v) 5 6), (rowMaxA (arrA (cand v) 5 0)), (multiReduction .maximumf [1] S128 (arrA (cand v) 5 1) 0xFF800000#32 reduces_S128x128_S128 (.inl rfl) rfl)⟩ := by rw [k0_part10_eq_skeleton]; rfl

theorem part11_val : k0_part11 (F := F) arg0 harg0 arg1 harg1 arg2 harg2 arg3 harg3 arg4 arg5 arg6 arg7 arg8
    cols (outsA (cand v) 5) (arrA (cand v) 5 0) (arrA (cand v) 5 1) (arrA (cand v) 5 2) (arrA (cand v) 5 3) (arrA (cand v) 5 4) (arrA (cand v) 5 5) (arrA (cand v) 5 6) (rowMaxA (arrA (cand v) 5 0)) (multiReduction .maximumf [1] S128 (arrA (cand v) 5 1) 0xFF800000#32 reduces_S128x128_S128 (.inl rfl) rfl)
    = pure ⟨(outsA (cand v) 6), (arrA (cand v) 6 0), (arrA (cand v) 6 1), (arrA (cand v) 6 2), (arrA (cand v) 6 3), (arrA (cand v) 6 4), (arrA (cand v) 6 5), (cmpf .oeq (arrA (cand v) 5 6) (broadcastTo S128x128 (mxA (arrA (cand v) 5)) broadcasts_S128x1_S128x128))⟩ := by rw [k0_part11_eq_skeleton]; rfl

theorem part12_val : k0_part12 (F := F) arg0 harg0 arg1 harg1 arg2 harg2 arg3 harg3 arg4 arg5 arg6 arg7 arg8
    cols (arrA (cand v) 5 6) (outsA (cand v) 6) (arrA (cand v) 6 0) (arrA (cand v) 6 1) (arrA (cand v) 6 2) (arrA (cand v) 6 3) (arrA (cand v) 6 4) (arrA (cand v) 6 5) (cmpf .oeq (arrA (cand v) 5 6) (broadcastTo S128x128 (mxA (arrA (cand v) 5)) broadcasts_S128x1_S128x128))
    = pure ⟨(arrA (cand v) 6 6), (mxA (arrA (cand v) 6)), (outsA (cand v) 7), (arrA (cand v) 7 0), (arrA (cand v) 7 1), (arrA (cand v) 7 2), (arrA (cand v) 7 3), (cmpf .oeq (arrA (cand v) 6 4) (broadcastTo S128x128 (mxA (arrA (cand v) 6)) broadcasts_S128x1_S128x128)), (broadcast S128x128 ninf)⟩ := by rw [k0_part12_eq_skeleton]; rfl

theorem part13_val : k0_part13 (F := F) arg0 harg0 arg1 harg1 arg2 harg2 arg3 harg3 arg4 arg5 arg6 arg7 arg8
    cols (arrA (cand v) 6 4) (arrA (cand v) 6 5) (arrA (cand v) 6 6) (mxA (arrA (cand v) 6)) (outsA (cand v) 7) (arrA (cand v) 7 0) (arrA (cand v) 7 1) (arrA (cand v) 7 2) (arrA (cand v) 7 3) (cmpf .oeq (arrA (cand v) 6 4) (broadcastTo S128x128 (mxA (arrA (cand v) 6)) broadcasts_S128x1_S128x128)) (broadcast S128x128 ninf)
    = pure ⟨(arrA (cand v) 7 4), (arrA (cand v) 7 5), (arrA (cand v) 7 6), (mxA (arrA (cand v) 7)), (outsA (cand v) 8), (arrA (cand v) 8 0), (arrA (cand v) 8 1), (arrA (cand v) 8 2), (broadcastTo S128x128 (mxA (arrA (cand v) 7)) broadcasts_S128x1_S128x128)⟩ := by rw [k0_part13_eq_skeleton]; rfl

theorem part14_val : k0_part14 (F := F) arg0 harg0 arg1 harg1 arg2 harg2 arg3 harg3 arg4 arg5 arg6 arg7 arg8
    cols (arrA (cand v) 7 3) (arrA (cand v) 7 4) (arrA (cand v) 7 5) (arrA (cand v) 7 6) (mxA (arrA (cand v) 7)) (outsA (cand v) 8) (arrA (cand v) 8 0) (arrA (cand v) 8 1) (arrA (cand v) 8 2) (broadcastTo S128x128 (mxA (arrA (cand v) 7)) broadcasts_S128x1_S128x128)
    = pure ⟨(arrA (cand v) 8 3), (arrA (cand v) 8 4), (arrA (cand v) 8 5), (arrA (cand v) 8 6), (mxA (arrA (cand v) 8)), (outsA (cand v) 9), (arrA (cand v) 9 0), (cmpf .oeq (arrA (cand v) 8 1) (broadcastTo S128x128 (mxA (arrA (cand v) 8)) broadcasts_S128x1_S128x128)), ninf⟩ := by rw [k0_part14_eq_skeleton]; rfl

theorem part15_val : k0_part15 (F := F) arg0 harg0 arg1 harg1 arg2 harg2 arg3 harg3 arg4 arg5 arg6 arg7 arg8
    cols (arrA (cand v) 8 1) (arrA (cand v) 8 2) (arrA (cand v) 8 3) (arrA (cand v) 8 4) (arrA (cand v) 8 5) (arrA (cand v) 8 6) (mxA (arrA (cand v) 8)) (outsA (cand v) 9) (arrA (cand v) 9 0) (cmpf .oeq (arrA (cand v) 8 1) (broadcastTo S128x128 (mxA (arrA (cand v) 8)) broadcasts_S128x1_S128x128)) ninf
    = pure ⟨(arrA (cand v) 9 1), (arrA (cand v) 9 2), (arrA (cand v) 9 3), (arrA (cand v) 9 4), (arrA (cand v) 9 5), (arrA (cand v) 9 6), (mxA (arrA (cand v) 9)), (outsA (cand v) 10)⟩ := by rw [k0_part15_eq_skeleton]; rfl

theorem part16_val : k0_part16 (F := F) arg0 harg0 arg1 harg1 arg2 harg2 arg3 harg3 arg4 arg5 arg6 arg7 arg8
    (arrA (cand v) 9 0) (arrA (cand v) 9 1) (arrA (cand v) 9 2) (arrA (cand v) 9 3) (arrA (cand v) 9 4) (arrA (cand v) 9 5) (arrA (cand v) 9 6) (mxA (arrA (cand v) 9))
    = pure ⟨(arrA (cand v) 10 0), (arrA (cand v) 10 1), (arrA (cand v) 10 2), (arrA (cand v) 10 3), (arrA (cand v) 10 4), (arrA (cand v) 10 5), (arrA (cand v) 10 6), (maximumf (maximumf (maximumf (maximumf (maximumf (rowMaxA (arrA (cand v) 10 0)) (rowMaxA (arrA (cand v) 10 1))) (rowMaxA (arrA (cand v) 10 2))) (rowMaxA (arrA (cand v) 10 3))) (rowMaxA (arrA (cand v) 10 4))) (rowMaxA (arrA (cand v) 10 5))), (multiReduction .maximumf [1] S128 (arrA (cand v) 10 6) 0xFF800000#32 reduces_S128x128_S128 (.inl rfl) rfl)⟩ := by rw [k0_part16_eq_skeleton]; rfl

theorem part17_val : k0_part17 (F := F) arg0 harg0 arg1 harg1 arg2 harg2 arg3 harg3 arg4 arg5 arg6 arg7 arg8
    cols (outsA (cand v) 10) (arrA (cand v) 10 0) (arrA (cand v) 10 1) (arrA (cand v) 10 2) (arrA (cand v) 10 3) (arrA (cand v) 10 4) (arrA (cand v) 10 5) (arrA (cand v) 10 6) (maximumf (maximumf (maximumf (maximumf (maximumf (rowMaxA (arrA (cand v) 10 0)) (rowMaxA (arrA (cand v) 10 1))) (rowMaxA (arrA (cand v) 10 2))) (rowMaxA (arrA (cand v) 10 3))) (rowMaxA (arrA (cand v) 10 4))) (rowMaxA (arrA (cand v) 10 5))) (multiReduction .maximumf [1] S128 (arrA (cand v) 10 6) 0xFF800000#32 reduces_S128x128_S128 (.inl rfl) rfl)
    = pure ⟨(outsA (cand v) 11), (arrA (cand v) 11 0), (arrA (cand v) 11 1), (arrA (cand v) 11 2), (arrA (cand v) 11 3), (arrA (cand v) 11 4), (arrA (cand v) 11 5), (arrA (cand v) 11 6), (maximumf (maximumf (maximumf (rowMaxA (arrA (cand v) 11 0)) (rowMaxA (arrA (cand v) 11 1))) (rowMaxA (arrA (cand v) 11 2))) (rowMaxA (arrA (cand v) 11 3))), (multiReduction .maximumf [1] S128 (arrA (cand v) 11 4) 0xFF800000#32 reduces_S128x128_S128 (.inl rfl) rfl)⟩ := by rw [k0_part17_eq_skeleton]; rfl

theorem part18_val : k0_part18 (F := F) arg0 harg0 arg1 harg1 arg2 harg2 arg3 harg3 arg4 arg5 arg6 arg7 arg8
    cols (outsA (cand v) 11) (arrA (cand v) 11 0) (arrA (cand v) 11 1) (arrA (cand v) 11 2) (arrA (cand v) 11 3) (arrA (cand v) 11 4) (arrA (cand v) 11 5) (arrA (cand v) 11 6) (maximumf (maximumf (maximumf (rowMaxA (arrA (cand v) 11 0)) (rowMaxA (arrA (cand v) 11 1))) (rowMaxA (arrA (cand v) 11 2))) (rowMaxA (arrA (cand v) 11 3))) (multiReduction .maximumf [1] S128 (arrA (cand v) 11 4) 0xFF800000#32 reduces_S128x128_S128 (.inl rfl) rfl)
    = pure ⟨(outsA (cand v) 12), (arrA (cand v) 12 0), (arrA (cand v) 12 1), (arrA (cand v) 12 2), (arrA (cand v) 12 3), (arrA (cand v) 12 4), (arrA (cand v) 12 5), (arrA (cand v) 12 6), (maximumf (rowMaxA (arrA (cand v) 12 0)) (rowMaxA (arrA (cand v) 12 1))), (multiReduction .maximumf [1] S128 (arrA (cand v) 12 2) 0xFF800000#32 reduces_S128x128_S128 (.inl rfl) rfl)⟩ := by rw [k0_part18_eq_skeleton]; rfl

theorem part19_val : k0_part19 (F := F) arg0 harg0 arg1 harg1 arg2 harg2 arg3 harg3 arg4 arg5 arg6 arg7 arg8
    cols (outsA (cand v) 12) (arrA (cand v) 12 0) (arrA (cand v) 12 1) (arrA (cand v) 12 2) (arrA (cand v) 12 3) (arrA (cand v) 12 4) (arrA (cand v) 12 5) (arrA (cand v) 12 6) (maximumf (rowMaxA (arrA (cand v) 12 0)) (rowMaxA (arrA (cand v) 12 1))) (multiReduction .maximumf [1] S128 (arrA (cand v) 12 2) 0xFF800000#32 reduces_S128x128_S128 (.inl rfl) rfl)
    = pure ⟨(outsA (cand v) 13), (arrA (cand v) 13 0), (arrA (cand v) 13 1), (arrA (cand v) 13 2), (arrA (cand v) 13 3), (arrA (cand v) 13 4), (arrA (cand v) 13 5), (arrA (cand v) 13 6)⟩ := by rw [k0_part19_eq_skeleton]; rfl

theorem part20_val : k0_part20 (F := F) arg0 harg0 arg1 harg1 arg2 harg2 arg3 harg3 arg4 arg5 arg6 arg7 arg8
    cols (outsA (cand v) 13) (arrA (cand v) 13 0) (arrA (cand v) 13 1) (arrA (cand v) 13 2) (arrA (cand v) 13 3) (arrA (cand v) 13 4) (arrA (cand v) 13 5) (arrA (cand v) 13 6)
    = pure ⟨(mxA (arrA (cand v) 13)), (outsA (cand v) 14), (arrA (cand v) 14 0), (arrA (cand v) 14 1), (arrA (cand v) 14 2), (arrA (cand v) 14 3), (arrA (cand v) 14 4), (cmpf .oeq (arrA (cand v) 13 5) (broadcastTo S128x128 (mxA (arrA (cand v) 13)) broadcasts_S128x1_S128x128)), ninf⟩ := by rw [k0_part20_eq_skeleton]; rfl

theorem part21_val : k0_part21 (F := F) arg0 harg0 arg1 harg1 arg2 harg2 arg3 harg3 arg4 arg5 arg6 arg7 arg8
    cols (arrA (cand v) 13 5) (arrA (cand v) 13 6) (mxA (arrA (cand v) 13)) (outsA (cand v) 14) (arrA (cand v) 14 0) (arrA (cand v) 14 1) (arrA (cand v) 14 2) (arrA (cand v) 14 3) (arrA (cand v) 14 4) (cmpf .oeq (arrA (cand v) 13 5) (broadcastTo S128x128 (mxA (arrA (cand v) 13)) broadcasts_S128x1_S128x128)) ninf
    = pure ⟨(arrA (cand v) 14 5), (arrA (cand v) 14 6), (mxA (arrA (cand v) 14)), (outsA (cand v) 15), (arrA (cand v) 15 0), (arrA (cand v) 15 1), (arrA (cand v) 15 2), (arrA (cand v) 15 3)⟩ := by rw [k0_part21_eq_skeleton]; rfl

theorem part22_val : k0_part22 (F := F) arg0 harg0 arg1 harg1 arg2 harg2 arg3 harg3 arg4 arg5 arg6 arg7 arg8
    cols (arrA (cand v) 14 4) (arrA (cand v) 14 5) (arrA (cand v) 14 6) (mxA (arrA (cand v) 14)) (outsA (cand v) 15) (arrA (cand v) 15 0) (arrA (cand v) 15 1) (arrA (cand v) 15 2) (arrA (cand v) 15 3)
    = pure ⟨(arrA (cand v) 15 4), (arrA (cand v) 15 5), (arrA (cand v) 15 6), (mxA (arrA (cand v) 15)), (outsA (cand v) 16), (arrA (cand v) 16 0), (arrA (cand v) 16 1), (cmpf .oeq (arrA (cand v) 15 2) (broadcastTo S128x128 (mxA (arrA (cand v) 15)) broadcasts_S128x1_S128x128))⟩ := by rw [k0_part22_eq_skeleton]; rfl

theorem part23_val : k0_part23 (F := F) arg0 harg0 arg1 harg1 arg2 harg2 arg3 harg3 arg4 arg5 arg6 arg7 arg8
    cols (arrA (cand v) 15 2) (arrA (cand v) 15 3) (arrA (cand v) 15 4) (arrA (cand v) 15 5) (arrA (cand v) 15 6) (mxA (arrA (cand v) 15)) (outsA (cand v) 16) (arrA (cand v) 16 0) (arrA (cand v) 16 1) (cmpf .oeq (arrA (cand v) 15 2) (broadcastTo S128x128 (mxA (arrA (cand v) 15)) broadcasts_S128x1_S128x128))
    = pure ⟨(arrA (cand v) 16 2), (arrA (cand v) 16 3), (arrA (cand v) 16 4), (arrA (cand v) 16 5), (arrA (cand v) 16 6), (mxA (arrA (cand v) 16)), (outsA (cand v) 17), (cmpf .oeq (arrA (cand v) 16 0) (broadcastTo S128x128 (mxA (arrA (cand v) 16)) broadcasts_S128x1_S128x128)), (broadcast S128x128 ninf)⟩ := by rw [k0_part23_eq_skeleton]; rfl

theorem part24_val : k0_part24 (F := F) arg0 harg0 arg1 harg1 arg2 harg2 arg3 harg3 arg4 arg5 arg6 arg7 arg8
    (arrA (cand v) 16 0) (arrA (cand v) 16 1) (arrA (cand v) 16 2) (arrA (cand v) 16 3) (arrA (cand v) 16 4) (arrA (cand v) 16 5) (arrA (cand v) 16 6) (mxA (arrA (cand v) 16)) (cmpf .oeq (arrA (cand v) 16 0) (broadcastTo S128x128 (mxA (arrA (cand v) 16)) broadcasts_S128x1_S128x128)) (broadcast S128x128 ninf)
    = pure ⟨(arrA (cand v) 17 0), (arrA (cand v) 17 1), (arrA (cand v) 17 2), (arrA (cand v) 17 3), (arrA (cand v) 17 4), (arrA (cand v) 17 5), (arrA (cand v) 17 6), (mxA (arrA (cand v) 17)), (broadcast S128x32 17#32)⟩ := by rw [k0_part24_eq_skeleton]; rfl

theorem part25_val : k0_part25 (F := F) arg0 harg0 arg1 harg1 arg2 harg2 arg3 harg3 arg4 arg5 arg6 arg7 arg8
    cols (outsA (cand v) 17) (arrA (cand v) 17 0) (arrA (cand v) 17 1) (arrA (cand v) 17 2) (arrA (cand v) 17 3) (arrA (cand v) 17 4) (arrA (cand v) 17 5) (arrA (cand v) 17 6) (mxA (arrA (cand v) 17)) (broadcast S128x32 17#32)
    = pure ⟨(outsA (cand v) 18), (arrA (cand v) 18 0), (arrA (cand v) 18 1), (arrA (cand v) 18 2), (arrA (cand v) 18 3), (arrA (cand v) 18 4), (arrA (cand v) 18 5), (arrA (cand v) 18 6), (maximumf (maximumf (maximumf (maximumf (rowMaxA (arrA (cand v) 18 0)) (rowMaxA (arrA (cand v) 18 1))) (rowMaxA (arrA (cand v) 18 2))) (rowMaxA (arrA (cand v) 18 3))) (rowMaxA (arrA (cand v) 18 4))), (multiReduction .maximumf [1] S128 (arrA (cand v) 18 5) 0xFF800000#32 reduces_S128x128_S128 (.inl rfl) rfl)⟩ := by rw [k0_part25_eq_skeleton]; rfl

theorem part26_val : k0_part26 (F := F) arg0 harg0 arg1 harg1 arg2 harg2 arg3 harg3 arg4 arg5 arg6 arg7 arg8
    cols (outsA (cand v) 18) (arrA (cand v) 18 0) (arrA (cand v) 18 1) (arrA (cand v) 18 2) (arrA (cand v) 18 3) (arrA (cand v) 18 4) (arrA (cand v) 18 5) (arrA (cand v) 18 6) (maximumf (maximumf (maximumf (maximumf (rowMaxA (arrA (cand v) 18 0)) (rowMaxA (arrA (cand v) 18 1))) (rowMaxA (arrA (cand v) 18 2))) (rowMaxA (arrA (cand v) 18 3))) (rowMaxA (arrA (cand v) 18 4))) (multiReduction .maximumf [1] S128 (arrA (cand v) 18 5) 0xFF800000#32 reduces_S128x128_S128 (.inl rfl) rfl)
    = pure ⟨(outsA (cand v) 19), (arrA (cand v) 19 0), (arrA (cand v) 19 1), (arrA (cand v) 19 2), (arrA (cand v) 19 3), (arrA (cand v) 19 4), (arrA (cand v) 19 5), (arrA (cand v) 19 6), (maximumf (maximumf (rowMaxA (arrA (cand v) 19 0)) (rowMaxA (arrA (cand v) 19 1))) (rowMaxA (arrA (cand v) 19 2))), (multiReduction .maximumf [1] S128 (arrA (cand v) 19 3) 0xFF800000#32 reduces_S128x128_S128 (.inl rfl) rfl)⟩ := by rw [k0_part26_eq_skeleton]; rfl

theorem part27_val : k0_part27 (F := F) arg0 harg0 arg1 harg1 arg2 harg2 arg3 harg3 arg4 arg5 arg6 arg7 arg8
    cols (outsA (cand v) 19) (arrA (cand v) 19 0) (arrA (cand v) 19 1) (arrA (cand v) 19 2) (arrA (cand v) 19 3) (arrA (cand v) 19 4) (arrA (cand v) 19 5) (arrA (cand v) 19 6) (maximumf (maximumf (rowMaxA (arrA (cand v) 19 0)) (rowMaxA (arrA (cand v) 19 1))) (rowMaxA (arrA (cand v) 19 2))) (multiReduction .maximumf [1] S128 (arrA (cand v) 19 3) 0xFF800000#32 reduces_S128x128_S128 (.inl rfl) rfl)
    = pure ⟨(outsA (cand v) 20), (arrA (cand v) 20 0), (arrA (cand v) 20 1), (arrA (cand v) 20 2), (arrA (cand v) 20 3), (arrA (cand v) 20 4), (arrA (cand v) 20 5), (arrA (cand v) 20 6), (rowMaxA (arrA (cand v) 20 0)), (multiReduction .maximumf [1] S128 (arrA (cand v) 20 1) 0xFF800000#32 reduces_S128x128_S128 (.inl rfl) rfl)⟩ := by rw [k0_part27_eq_skeleton]; rfl

theorem part28_val : k0_part28 (F := F) arg0 harg0 arg1 harg1 arg2 harg2 arg3 harg3 arg4 arg5 arg6 arg7 arg8
    cols (outsA (cand v) 20) (arrA (cand v) 20 0) (arrA (cand v) 20 1) (arrA (cand v) 20 2) (arrA (cand v) 20 3) (arrA (cand v) 20 4) (arrA (cand v) 20 5) (arrA (cand v) 20 6) (rowMaxA (arrA (cand v) 20 0)) (multiReduction .maximumf [1] S128 (arrA (cand v) 20 1) 0xFF800000#32 reduces_S128x128_S128 (.inl rfl) rfl)
    = pure ⟨(outsA (cand v) 21), (arrA (cand v) 21 0), (arrA (cand v) 21 1), (arrA (cand v) 21 2), (arrA (cand v) 21 3), (arrA (cand v) 21 4), (arrA (cand v) 21 5), (cmpf .oeq (arrA (cand v) 20 6) (broadcastTo S128x128 (mxA (arrA (cand v) 20)) broadcasts_S128x1_S128x128))⟩ := by rw [k0_part28_eq_skeleton]; rfl

theorem part29_val : k0_part29 (F := F) arg0 harg0 arg1 harg1 arg2 harg2 arg3 harg3 arg4 arg5 arg6 arg7 arg8
    cols (arrA (cand v) 20 6) (outsA (cand v) 21) (arrA (cand v) 21 0) (arrA (cand v) 21 1) (arrA (cand v) 21 2) (arrA (cand v) 21 3) (arrA (cand v) 21 4) (arrA (cand v) 21 5) (cmpf .oeq (arrA (cand v) 20 6) (broadcastTo S128x128 (mxA (arrA (cand v) 20)) broadcasts_S128x1_S128x128))
    = pure ⟨(arrA (cand v) 21 6), (mxA (arrA (cand v) 21)), (outsA (cand v) 22), (arrA (cand v) 22 0), (arrA (cand v) 22 1), (arrA (cand v) 22 2), (arrA (cand v) 22 3), (cmpf .oeq (arrA (cand v) 21 4) (broadcastTo S128x128 (mxA (arrA (cand v) 21)) broadcasts_S128x1_S128x128)), (broadcast S128x128 ninf)⟩ := by rw [k0_part29_eq_skeleton]; rfl

theorem part30_val : k0_part30 (F := F) arg0 harg0 arg1 harg1 arg2 harg2 arg3 harg3 arg4 arg5 arg6 arg7 arg8
    cols (arrA (cand v) 21 4) (arrA (cand v) 21 5) (arrA (cand v) 21 6) (mxA (arrA (cand v) 21)) (outsA (cand v) 22) (arrA (cand v) 22 0) (arrA (cand v) 22 1) (arrA (cand v) 22 2) (arrA (cand v) 22 3) (cmpf .oeq (arrA (cand v) 21 4) (broadcastTo S128x128 (mxA (arrA (cand v) 21)) broadcasts_S128x1_S128x128)) (broadcast S128x128 ninf)
    = pure ⟨(arrA (cand v) 22 4), (arrA (cand v) 22 5), (arrA (cand v) 22 6), (mxA (arrA (cand v) 22)), (outsA (cand v) 23), (arrA (cand v) 23 0), (arrA (cand v) 23 1), (arrA (cand v) 23 2), (broadcastTo S128x128 (mxA (arrA (cand v) 22)) broadcasts_S128x1_S128x128)⟩ := by rw [k0_part30_eq_skeleton]; rfl

theorem part31_val : k0_part31 (F := F) arg0 harg0 arg1 harg1 arg2 harg2 arg3 harg3 arg4 arg5 arg6 arg7 arg8
    cols (arrA (cand v) 22 3) (arrA (cand v) 22 4) (arrA (cand v) 22 5) (arrA (cand v) 22 6) (mxA (arrA (cand v) 22)) (outsA (cand v) 23) (arrA (cand v) 23 0) (arrA (cand v) 23 1) (arrA (cand v) 23 2) (broadcastTo S128x128 (mxA (arrA (cand v) 22)) broadcasts_S128x1_S128x128)
    = pure ⟨(arrA (cand v) 23 3), (arrA (cand v) 23 4), (arrA (cand v) 23 5), (arrA (cand v) 23 6), (mxA (arrA (cand v) 23)), (outsA (cand v) 24), (arrA (cand v) 24 0), (cmpf .oeq (arrA (cand v) 23 1) (broadcastTo S128x128 (mxA (arrA (cand v) 23)) broadcasts_S128x1_S128x128)), ninf⟩ := by rw [k0_part31_eq_skeleton]; rfl

theorem part32_val : k0_part32 (F := F) arg0 harg0 arg1 harg1 arg2 harg2 arg3 harg3 arg4 arg5 arg6 arg7 arg8
    cols (arrA (cand v) 23 1) (arrA (cand v) 23 2) (arrA (cand v) 23 3) (arrA (cand v) 23 4) (arrA (cand v) 23 5) (arrA (cand v) 23 6) (mxA (arrA (cand v) 23)) (outsA (cand v) 24) (arrA (cand v) 24 0) (cmpf .oeq (arrA (cand v) 23 1) (broadcastTo S128x128 (mxA (arrA (cand v) 23)) broadcasts_S128x1_S128x128)) ninf
    = pure ⟨(arrA (cand v) 24 1), (arrA (cand v) 24 2), (arrA (cand v) 24 3), (arrA (cand v) 24 4), (arrA (cand v) 24 5), (arrA (cand v) 24 6), (mxA (arrA (cand v) 24)), (outsA (cand v) 25)⟩ := by rw [k0_part32_eq_skeleton]; rfl

theorem part33_val : k0_part33 (F := F) arg0 harg0 arg1 harg1 arg2 harg2 arg3 harg3 arg4 arg5 arg6 arg7 arg8
    (arrA (cand v) 24 0) (arrA (cand v) 24 1) (arrA (cand v) 24 2) (arrA (cand v) 24 3) (arrA (cand v) 24 4) (arrA (cand v) 24 5) (arrA (cand v) 24 6) (mxA (arrA (cand v) 24))
    = pure ⟨(arrA (cand v) 25 0), (arrA (cand v) 25 1), (arrA (cand v) 25 2), (arrA (cand v) 25 3), (arrA (cand v) 25 4), (arrA (cand v) 25 5), (arrA (cand v) 25 6), (maximumf (maximumf (maximumf (maximumf (maximumf (rowMaxA (arrA (cand v) 25 0)) (rowMaxA (arrA (cand v) 25 1))) (rowMaxA (arrA (cand v) 25 2))) (rowMaxA (arrA (cand v) 25 3))) (rowMaxA (arrA (cand v) 25 4))) (rowMaxA (arrA (cand v) 25 5))), (multiReduction .maximumf [1] S128 (arrA (cand v) 25 6) 0xFF800000#32 reduces_S128x128_S128 (.inl rfl) rfl)⟩ := by rw [k0_part33_eq_skeleton]; rfl

theorem part34_val : k0_part34 (F := F) arg0 harg0 arg1 harg1 arg2 harg2 arg3 harg3 arg4 arg5 arg6 arg7 arg8
    cols (outsA (cand v) 25) (arrA (cand v) 25 0) (arrA (cand v) 25 1) (arrA (cand v) 25 2) (arrA (cand v) 25 3) (arrA (cand v) 25 4) (arrA (cand v) 25 5) (arrA (cand v) 25 6) (maximumf (maximumf (maximumf (maximumf (maximumf (rowMaxA (arrA (cand v) 25 0)) (rowMaxA (arrA (cand v) 25 1))) (rowMaxA (arrA (cand v) 25 2))) (rowMaxA (arrA (cand v) 25 3))) (rowMaxA (arrA (cand v) 25 4))) (rowMaxA (arrA (cand v) 25 5))) (multiReduction .maximumf [1] S128 (arrA (cand v) 25 6) 0xFF800000#32 reduces_S128x128_S128 (.inl rfl) rfl)
    = pure ⟨(outsA (cand v) 26), (arrA (cand v) 26 0), (arrA (cand v) 26 1), (arrA (cand v) 26 2), (arrA (cand v) 26 3), (arrA (cand v) 26 4), (arrA (cand v) 26 5), (arrA (cand v) 26 6), (maximumf (maximumf (maximumf (rowMaxA (arrA (cand v) 26 0)) (rowMaxA (arrA (cand v) 26 1))) (rowMaxA (arrA (cand v) 26 2))) (rowMaxA (arrA (cand v) 26 3))), (multiReduction .maximumf [1] S128 (arrA (cand v) 26 4) 0xFF800000#32 reduces_S128x128_S128 (.inl rfl) rfl)⟩ := by rw [k0_part34_eq_skeleton]; rfl

theorem part35_val : k0_part35 (F := F) arg0 harg0 arg1 harg1 arg2 harg2 arg3 harg3 arg4 arg5 arg6 arg7 arg8
    cols (outsA (cand v) 26) (arrA (cand v) 26 0) (arrA (cand v) 26 1) (arrA (cand v) 26 2) (arrA (cand v) 26 3) (arrA (cand v) 26 4) (arrA (cand v) 26 5) (arrA (cand v) 26 6) (maximumf (maximumf (maximumf (rowMaxA (arrA (cand v) 26 0)) (rowMaxA (arrA (cand v) 26 1))) (rowMaxA (arrA (cand v) 26 2))) (rowMaxA (arrA (cand v) 26 3))) (multiReduction .maximumf [1] S128 (arrA (cand v) 26 4) 0xFF800000#32 reduces_S128x128_S128 (.inl rfl) rfl)
    = pure ⟨(outsA (cand v) 27), (arrA (cand v) 27 0), (arrA (cand v) 27 1), (arrA (cand v) 27 2), (arrA (cand v) 27 3), (arrA (cand v) 27 4), (arrA (cand v) 27 5), (arrA (cand v) 27 6), (maximumf (rowMaxA (arrA (cand v) 27 0)) (rowMaxA (arrA (cand v) 27 1))), (multiReduction .maximumf [1] S128 (arrA (cand v) 27 2) 0xFF800000#32 reduces_S128x128_S128 (.inl rfl) rfl)⟩ := by rw [k0_part35_eq_skeleton]; rfl

theorem part36_val : k0_part36 (F := F) arg0 harg0 arg1 harg1 arg2 harg2 arg3 harg3 arg4 arg5 arg6 arg7 arg8
    cols (outsA (cand v) 27) (arrA (cand v) 27 0) (arrA (cand v) 27 1) (arrA (cand v) 27 2) (arrA (cand v) 27 3) (arrA (cand v) 27 4) (arrA (cand v) 27 5) (arrA (cand v) 27 6) (maximumf (rowMaxA (arrA (cand v) 27 0)) (rowMaxA (arrA (cand v) 27 1))) (multiReduction .maximumf [1] S128 (arrA (cand v) 27 2) 0xFF800000#32 reduces_S128x128_S128 (.inl rfl) rfl)
    = pure ⟨(outsA (cand v) 28), (arrA (cand v) 28 0), (arrA (cand v) 28 1), (arrA (cand v) 28 2), (arrA (cand v) 28 3), (arrA (cand v) 28 4), (arrA (cand v) 28 5), (arrA (cand v) 28 6)⟩ := by rw [k0_part36_eq_skeleton]; rfl

theorem part37_val : k0_part37 (F := F) arg0 harg0 arg1 harg1 arg2 harg2 arg3 harg3 arg4 arg5 arg6 arg7 arg8
    cols (outsA (cand v) 28) (arrA (cand v) 28 0) (arrA (cand v) 28 1) (arrA (cand v) 28 2) (arrA (cand v) 28 3) (arrA (cand v) 28 4) (arrA (cand v) 28 5) (arrA (cand v) 28 6)
    = pure ⟨(mxA (arrA (cand v) 28)), (outsA (cand v) 29), (arrA (cand v) 29 0), (arrA (cand v) 29 1), (arrA (cand v) 29 2), (arrA (cand v) 29 3), (arrA (cand v) 29 4), (cmpf .oeq (arrA (cand v) 28 5) (broadcastTo S128x128 (mxA (arrA (cand v) 28)) broadcasts_S128x1_S128x128)), ninf⟩ := by rw [k0_part37_eq_skeleton]; rfl

theorem part38_val : k0_part38 (F := F) arg0 harg0 arg1 harg1 arg2 harg2 arg3 harg3 arg4 arg5 arg6 arg7 arg8
    cols (arrA (cand v) 28 5) (arrA (cand v) 28 6) (mxA (arrA (cand v) 28)) (outsA (cand v) 29) (arrA (cand v) 29 0) (arrA (cand v) 29 1) (arrA (cand v) 29 2) (arrA (cand v) 29 3) (arrA (cand v) 29 4) (cmpf .oeq (arrA (cand v) 28 5) (broadcastTo S128x128 (mxA (arrA (cand v) 28)) broadcasts_S128x1_S128x128)) ninf
    = pure ⟨(arrA (cand v) 29 5), (arrA (cand v) 29 6), (mxA (arrA (cand v) 29)), (outsA (cand v) 30), (arrA (cand v) 30 0), (arrA (cand v) 30 1), (arrA (cand v) 30 2), (arrA (cand v) 30 3)⟩ := by rw [k0_part38_eq_skeleton]; rfl

theorem part39_val : k0_part39 (F := F) arg0 harg0 arg1 harg1 arg2 harg2 arg3 harg3 arg4 arg5 arg6 arg7 arg8
    cols (arrA (cand v) 29 4) (arrA (cand v) 29 5) (arrA (cand v) 29 6) (mxA (arrA (cand v) 29)) (outsA (cand v) 30) (arrA (cand v) 30 0) (arrA (cand v) 30 1) (arrA (cand v) 30 2) (arrA (cand v) 30 3)
    = pure ⟨(arrA (cand v) 30 4), (arrA (cand v) 30 5), (arrA (cand v) 30 6), (mxA (arrA (cand v) 30)), (outsA (cand v) 31), (arrA (cand v) 31 0), (arrA (cand v) 31 1), (cmpf .oeq (arrA (cand v) 30 2) (broadcastTo S128x128 (mxA (arrA (cand v) 30)) broadcasts_S128x1_S128x128))⟩ := by rw [k0_part39_eq_skeleton]; rfl

theorem part43_val : k0_part43 (F := F) arg0 harg0 arg1 harg1 arg2 harg2 arg3 harg3 arg4 arg5 arg6 arg7 arg8
    cols (outsB (pair w0 w1) 2) (arrB (pair w0 w1) 2 0) (arrB (pair w0 w1) 2 1) (rowMaxB (arrB (pair w0 w1) 2 0))
    = pure ⟨(arrB (pair w0 w1) 4 1), (mxB (arrB (pair w0 w1) 4)), (outsB (pair w0 w1) 5), (arrB (pair w0 w1) 5 0)⟩ := by rw [k0_part43_eq_skeleton]; rfl

theorem part44_val : k0_part44 (F := F) arg0 harg0 arg1 harg1 arg2 harg2 arg3 harg3 arg4 arg5 arg6 arg7 arg8
    cols (arrB (pair w0 w1) 4 1) (mxB (arrB (pair w0 w1) 4)) (outsB (pair w0 w1) 5) (arrB (pair w0 w1) 5 0)
    = pure ⟨(outsB (pair w0 w1) 7), (arrB (pair w0 w1) 7 0), (arrB (pair w0 w1) 7 1), (mxB (arrB (pair w0 w1) 7)), (broadcast S128x32 7#32)⟩ := by rw [k0_part44_eq_skeleton]; rfl

theorem part45_val : k0_part45 (F := F) arg0 harg0 arg1 harg1 arg2 harg2 arg3 harg3 arg4 arg5 arg6 arg7 arg8
    cols (outsB (pair w0 w1) 7) (arrB (pair w0 w1) 7 0) (arrB (pair w0 w1) 7 1) (mxB (arrB (pair w0 w1) 7)) (broadcast S128x32 7#32)
    = pure ⟨(outsB (pair w0 w1) 10), (arrB (pair w0 w1) 10 0), (arrB (pair w0 w1) 10 1)⟩ := by rw [k0_part45_eq_skeleton]; rfl

theorem part46_val : k0_part46 (F := F) arg0 harg0 arg1 harg1 arg2 harg2 arg3 harg3 arg4 arg5 arg6 arg7 arg8
    cols (outsB (pair w0 w1) 10) (arrB (pair w0 w1) 10 0) (arrB (pair w0 w1) 10 1)
    = pure ⟨(arrB (pair w0 w1) 12 0), (arrB (pair w0 w1) 12 1), (mxB (arrB (pair w0 w1) 12)), (outsB (pair w0 w1) 13), (broadcastTo S128x32 (mxB (arrB (pair w0 w1) 12)) broadcasts_S128x1_S128x32)⟩ := by rw [k0_part46_eq_skeleton]; rfl

theorem part47_val : k0_part47 (F := F) arg0 harg0 arg1 harg1 arg2 harg2 arg3 harg3 arg4 arg5 arg6 arg7 arg8
    cols (arrB (pair w0 w1) 12 0) (arrB (pair w0 w1) 12 1) (mxB (arrB (pair w0 w1) 12)) (outsB (pair w0 w1) 13) (broadcastTo S128x32 (mxB (arrB (pair w0 w1) 12)) broadcasts_S128x1_S128x32)
    = pure ⟨(outsB (pair w0 w1) 15), (arrB (pair w0 w1) 15 0), (arrB (pair w0 w1) 15 1), (rowMaxB (arrB (pair w0 w1) 15 0)), (multiReduction .maximumf [1] S128 (arrB (pair w0 w1) 15 1) 0xFF800000#32 reduces_S128x32_S128 (.inl rfl) rfl)⟩ := by rw [k0_part47_eq_skeleton]; rfl

theorem part48_val : k0_part48 (F := F) arg0 harg0 arg1 harg1 arg2 harg2 arg3 harg3 arg4 arg5 arg6 arg7 arg8
    cols (outsB (pair w0 w1) 15) (arrB (pair w0 w1) 15 0) (arrB (pair w0 w1) 15 1) (rowMaxB (arrB (pair w0 w1) 15 0)) (multiReduction .maximumf [1] S128 (arrB (pair w0 w1) 15 1) 0xFF800000#32 reduces_S128x32_S128 (.inl rfl) rfl)
    = pure ⟨(arrB (pair w0 w1) 17 1), (outsB (pair w0 w1) 18), (arrB (pair w0 w1) 18 0), (broadcastTo S128x32 (mxB (arrB (pair w0 w1) 17)) broadcasts_S128x1_S128x32)⟩ := by rw [k0_part48_eq_skeleton]; rfl

theorem part49_val : k0_part49 (F := F) arg0 harg0 arg1 harg1 arg2 harg2 arg3 harg3 arg4 arg5 arg6 arg7 arg8
    cols (arrB (pair w0 w1) 17 1) (outsB (pair w0 w1) 18) (arrB (pair w0 w1) 18 0) (broadcastTo S128x32 (mxB (arrB (pair w0 w1) 17)) broadcasts_S128x1_S128x32)
    = pure ⟨(outsB (pair w0 w1) 20), (arrB (pair w0 w1) 20 0), (arrB (pair w0 w1) 20 1), (mxB (arrB (pair w0 w1) 20)), (cmpi .eq cols (broadcast S128x32 20#32))⟩ := by rw [k0_part49_eq_skeleton]; rfl

theorem part50_val : k0_part50 (F := F) arg0 harg0 arg1 harg1 arg2 harg2 arg3 harg3 arg4 arg5 arg6 arg7 arg8
    cols (outsB (pair w0 w1) 20) (arrB (pair w0 w1) 20 0) (arrB (pair w0 w1) 20 1) (mxB (arrB (pair w0 w1) 20)) (cmpi .eq cols (broadcast S128x32 20#32))
    = pure ⟨(outsB (pair w0 w1) 23), (arrB (pair w0 w1) 23 0), (arrB (pair w0 w1) 23 1)⟩ := by rw [k0_part50_eq_skeleton]; rfl

theorem part51_val : k0_part51 (F := F) arg0 harg0 arg1 harg1 arg2 harg2 arg3 harg3 arg4 arg5 arg6 arg7 arg8
    cols (outsB (pair w0 w1) 23) (arrB (pair w0 w1) 23 0) (arrB (pair w0 w1) 23 1)
    = pure ⟨(arrB (pair w0 w1) 25 0), (arrB (pair w0 w1) 25 1), (mxB (arrB (pair w0 w1) 25)), (outsB (pair w0 w1) 26), (cmpf .oeq (arrB (pair w0 w1) 25 0) (broadcastTo S128x32 (mxB (arrB (pair w0 w1) 25)) broadcasts_S128x1_S128x32))⟩ := by rw [k0_part51_eq_skeleton]; rfl

theorem part52_val : k0_part52 (F := F) arg0 harg0 arg1 harg1 arg2 harg2 arg3 harg3 arg4 arg5 arg6 arg7 arg8
    cols (arrB (pair w0 w1) 25 0) (arrB (pair w0 w1) 25 1) (mxB (arrB (pair w0 w1) 25)) (outsB (pair w0 w1) 26) (cmpf .oeq (arrB (pair w0 w1) 25 0) (broadcastTo S128x32 (mxB (arrB (pair w0 w1) 25)) broadcasts_S128x1_S128x32))
    = pure ⟨(outsB (pair w0 w1) 28), (arrB (pair w0 w1) 28 0), (arrB (pair w0 w1) 28 1), (rowMaxB (arrB (pair w0 w1) 28 0)), (rowMaxB (arrB (pair w0 w1) 28 1))⟩ := by rw [k0_part52_eq_skeleton]; rfl

theorem part53_val : k0_part53 (F := F) arg0 harg0 arg1 harg1 arg2 harg2 arg3 harg3 arg4 arg5 arg6 arg7 arg8
    cols (outsB (pair w0 w1) 28) (arrB (pair w0 w1) 28 0) (arrB (pair w0 w1) 28 1) (rowMaxB (arrB (pair w0 w1) 28 0)) (rowMaxB (arrB (pair w0 w1) 28 1))
    = pure ⟨(arrB (pair w0 w1) 30 1), (outsB (pair w0 w1) 31), (arrB (pair w0 w1) 31 0), (cmpf .oeq (arrB (pair w0 w1) 30 1) (broadcastTo S128x32 (mxB (arrB (pair w0 w1) 30)) broadcasts_S128x1_S128x32))⟩ := by rw [k0_part53_eq_skeleton]; rfl

end

end Cert.KernelIdeal.Top

end
-- ==== Proof.Body.lean ====
module

public import proofs.«01_k».proof.Proof.Gather
public import proofs.«01_k».proof.Proof.Parts

/-!
# The body on one device
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

theorem wp_seq (c : Dev nD) {α β : Type} {p : PR F α} {k : α → PR F β} {Q : β → sProp 𝕄} :
    WP c p (fun a => WP c (k a) Q) ⊢ WP c (p >>= k) Q := by
  show wp _ _ _ p _ ⊢ wp _ _ _ (p >>= k) _
  rw [wp_bind]

/-- A part that only computes. -/
theorem wp_val (c : Dev nD) {α β : Type} {p : PR F α} {a : α} {k : α → PR F β} {Q : β → sProp 𝕄} (h : p = pure a) :
    WP c (k a) Q ⊢ WP c (p >>= k) Q := by
  subst h; exact BIBase.Entails.refl

section
variable (c : Dev nD)

/-- The rights of the send to place `p`. -/
def rightT (p : Fin 8) : sProp 𝕄 :=
  iprop(dutyTok ER (cell (at' c p) (.inr (.inr (gi c)))) 0 none ∗ dutyTok ER (cell c (.inr (.inl p))) 0 none)

/-- What a device starts with. -/
def bodyIn : sProp 𝕄 :=
  iprop((∃ W, owes (c : Thread nD τ) (O₀ c) W) ∗ xPt m c ∗ some' (F := F) c vM ∗ some' (F := F) c (slabM 0) ∗ some' (F := F) c (sqM 1)
    ∗ some' (F := F) c (rowsM (gi c))
    ∗ (dutyTok ER (cell c (.inl 1)) 0 none ∗ dutyTok ER (cell (par c) (.inl 0)) 0 none ∗ dutyTok ER (cell (par c) (.inl 3)) 0 none ∗ dutyTok ER (cell c (.inl 2)) 0 none)
    ∗ (cred (tallyAt (cell c (.inl 0)) () 8) ∗ cred (tallyAt (cell c (.inl 3)) () N))
    ∗ (atPos ER (cell c (.inl 0)) 0 ∅ 0 ∗ atPos ER (cell c (.inl 1)) 0 ∅ 0 ∗ atPos ER (cell c (.inl 2)) 0 ∅ 0 ∗ atPos ER (cell c (.inl 3)) 0 ∅ 0)
    ∗ bigSep Finset.univ (fun p => sigT c p) ∗ bigSep Finset.univ (fun p => rightT c p) ∗ bigSep Finset.univ (fun p => recvT c p)
    ∗ bigSep Finset.univ (fun p => atPos ER (cell c (.inr (.inl p))) 0 ∅ 0))

/-- What it ends with, before its buffers are put together. -/
def bodyOut : sProp 𝕄 :=
  iprop((∃ W, owes (c : Thread nD τ) 0 W) ∗ copyPay m c
    ∗ owns (c : Thread nD τ) (slabM 0) fullShare (lst m c) ∗ owns (c : Thread nD τ) (slabM 1) fullShare (lst m (par c))
    ∗ (semVal (cell c (.inl 0)) 0 ∗ semVal (cell c (.inl 1)) 0 ∗ semVal (cell c (.inl 2)) 0 ∗ semVal (cell c (.inl 3)) 0)
    ∗ bigSep Finset.univ (fun p => recvD m c p) ∗ bigSep Finset.univ (fun p => sentD m c p))

/-- The rights and the rows met at the barrier, together. -/
theorem sendT_intro : iprop(bigSep Finset.univ (fun p => rightT c p) ∗ bigSep Finset.univ (fun p => oth c p (some' (F := F) (at' c p) (rowsM (gi c)))))
    ⊢ bigSep Finset.univ (fun p => sendT (F := F) c p) := by
  rw [← bigSep_sep']
  exact bigSep_mono fun p _ => by
    show iprop(rightT c p ∗ oth c p (some' (F := F) (at' c p) (rowsM (gi c)))) ⊢ sendT (F := F) c p
    unfold rightT sendT
    iintro ⟨⟨A, B⟩, C⟩
    iframe

/-- What it has after the first wait for the end of a send. -/
def bodyMid : sProp 𝕄 :=
  iprop((∃ W, owes (c : Thread nD τ) 0 W) ∗ copyPay m c
    ∗ owns (c : Thread nD τ) (slabM 0) fullShare (lst m c) ∗ owns (c : Thread nD τ) (slabM 1) fullShare (lst m (par c))
    ∗ (semVal (cell c (.inl 0)) 0 ∗ semVal (cell c (.inl 1)) 0 ∗ semVal (cell c (.inl 2)) 0 ∗ semVal (cell c (.inl 3)) 0)
    ∗ bigSep Finset.univ (fun p => recvD m c p) ∗ sentD m c 0
    ∗ sentT m c 1 ∗ sentT m c 2 ∗ sentT m c 3 ∗ sentT m c 4 ∗ sentT m c 5 ∗ sentT m c 6 ∗ sentT m c 7)

set_option maxHeartbeats 4000000 in
/-- The body up to there. -/
theorem wp_part56 {Q : _ → sProp 𝕄} :
    iprop(recd m K ∗ levAts L lv ∗ bodyIn m c)
      ⊢ iprop((bodyMid m c -∗ Q ⟨c, w10 c, 1#32⟩) -∗ WP c (k0_part56 (F := F) aM (Memref.isWhole_whole _) oM (Memref.isWhole_whole _) vM (Memref.isWhole_whole _) eM (Memref.isWhole_whole _) cc0_scratch2 cc0_scratch3 cc0_scratch4 cc0_scratch5 cc0_scratch6) Q) := by
  unfold bodyIn
  rw [bigSep_eight (fun p => sigT c p), bigSep_eight (fun p => recvT c p), bigSep_eight (fun p => atPos ER (cell c (.inr (.inl p))) 0 ∅ 0)]
  iintro ⟨#HI, #Hlev, HO, Hx, Hv, Hs0, Hs1, Hr, ⟨Tc, Tb, Tr, Ts⟩, ⟨Cb, Cr⟩, ⟨Pb, Pc, Ps, Pr⟩, ⟨B0, B1, B2, B3, B4, B5, B6, B7⟩, HT, ⟨R0, R1, R2, R3, R4, R5, R6, R7⟩, ⟨A0, A1, A2, A3, A4, A5, A6, A7⟩⟩ Hk
  rw [k0_part56_eq_skeleton, k0_part56_skel]
  iapply wp_seq
  iapply (wp_part1 m K c) $$ [HO Hx Hv Tc Tb Hs1 B0 B1 B2]
  · iframe HI; iframe
  iintro ⟨Cc, HO⟩
  iapply wp_seq
  iapply (wp_part2 m K c) $$ [HO B3 B4 B5 B6 B7 Cb Pb Cc Pc]
  · iframe HI; iframe Hlev; iframe
  iintro ⟨HO, ⟨Hs1, Hoth⟩, Hcp, Vb, Vc⟩
  rw [pay1_val, pay2_val, pay3_val]
  iapply (wp_val c (part3_val _ _ _ _ _ _ _ _ _ _ _ _ _ (xrows m c)))
  iapply (wp_val c (part4_val _ _ _ _ _ _ _ _ _ _ _ _ _ (xrows m c)))
  iapply (wp_val c (part5_val _ _ _ _ _ _ _ _ _ _ _ _ _ (xrows m c)))
  iapply (wp_val c (part6_val _ _ _ _ _ _ _ _ _ _ _ _ _ (xrows m c)))
  iapply (wp_val c (part7_val _ _ _ _ _ _ _ _ _ _ _ _ _ (xrows m c)))
  iapply (wp_val c (part8_val _ _ _ _ _ _ _ _ _ _ _ _ _ (xrows m c)))
  iapply (wp_val c (part9_val _ _ _ _ _ _ _ _ _ _ _ _ _ (xrows m c)))
  iapply (wp_val c (part10_val _ _ _ _ _ _ _ _ _ _ _ _ _ (xrows m c)))
  iapply (wp_val c (part11_val _ _ _ _ _ _ _ _ _ _ _ _ _ (xrows m c)))
  iapply (wp_val c (part12_val _ _ _ _ _ _ _ _ _ _ _ _ _ (xrows m c)))
  iapply (wp_val c (part13_val _ _ _ _ _ _ _ _ _ _ _ _ _ (xrows m c)))
  iapply (wp_val c (part14_val _ _ _ _ _ _ _ _ _ _ _ _ _ (xrows m c)))
  iapply (wp_val c (part15_val _ _ _ _ _ _ _ _ _ _ _ _ _ (xrows m c)))
  iapply (wp_val c (part16_val _ _ _ _ _ _ _ _ _ _ _ _ _ (xrows m c)))
  iapply (wp_val c (part17_val _ _ _ _ _ _ _ _ _ _ _ _ _ (xrows m c)))
  iapply (wp_val c (part18_val _ _ _ _ _ _ _ _ _ _ _ _ _ (xrows m c)))
  iapply (wp_val c (part19_val _ _ _ _ _ _ _ _ _ _ _ _ _ (xrows m c)))
  iapply (wp_val c (part20_val _ _ _ _ _ _ _ _ _ _ _ _ _ (xrows m c)))
  iapply (wp_val c (part21_val _ _ _ _ _ _ _ _ _ _ _ _ _ (xrows m c)))
  iapply (wp_val c (part22_val _ _ _ _ _ _ _ _ _ _ _ _ _ (xrows m c)))
  iapply (wp_val c (part23_val _ _ _ _ _ _ _ _ _ _ _ _ _ (xrows m c)))
  iapply (wp_val c (part24_val _ _ _ _ _ _ _ _ _ _ _ _ _ (xrows m c)))
  iapply (wp_val c (part25_val _ _ _ _ _ _ _ _ _ _ _ _ _ (xrows m c)))
  iapply (wp_val c (part26_val _ _ _ _ _ _ _ _ _ _ _ _ _ (xrows m c)))
  iapply (wp_val c (part27_val _ _ _ _ _ _ _ _ _ _ _ _ _ (xrows m c)))
  iapply (wp_val c (part28_val _ _ _ _ _ _ _ _ _ _ _ _ _ (xrows m c)))
  iapply (wp_val c (part29_val _ _ _ _ _ _ _ _ _ _ _ _ _ (xrows m c)))
  iapply (wp_val c (part30_val _ _ _ _ _ _ _ _ _ _ _ _ _ (xrows m c)))
  iapply (wp_val c (part31_val _ _ _ _ _ _ _ _ _ _ _ _ _ (xrows m c)))
  iapply (wp_val c (part32_val _ _ _ _ _ _ _ _ _ _ _ _ _ (xrows m c)))
  iapply (wp_val c (part33_val _ _ _ _ _ _ _ _ _ _ _ _ _ (xrows m c)))
  iapply (wp_val c (part34_val _ _ _ _ _ _ _ _ _ _ _ _ _ (xrows m c)))
  iapply (wp_val c (part35_val _ _ _ _ _ _ _ _ _ _ _ _ _ (xrows m c)))
  iapply (wp_val c (part36_val _ _ _ _ _ _ _ _ _ _ _ _ _ (xrows m c)))
  iapply (wp_val c (part37_val _ _ _ _ _ _ _ _ _ _ _ _ _ (xrows m c)))
  iapply (wp_val c (part38_val _ _ _ _ _ _ _ _ _ _ _ _ _ (xrows m c)))
  iapply (wp_val c (part39_val _ _ _ _ _ _ _ _ _ _ _ _ _ (xrows m c)))
  iapply wp_seq
  iapply (wp_part40 c) $$ [Hs0]
  · iexact Hs0
  iintro %z Hs0
  rw [pay335_val]
  iapply wp_seq
  iapply (wp_part41 m K c z) $$ [HO Tr Ts Hs1 Hs0 Ps Cr Pr]
  · iframe HI; iframe Hlev; iframe
  iintro ⟨HO, L0, L1, Vs, Vr⟩
  iapply wp_seq
  iapply (wp_part42 m c) $$ [L0 L1]
  · iframe
  iintro ⟨L0, L1⟩
  rw [pay343_val, pay344_val, pay345_val, pay346_val]
  iapply (wp_val c (part43_val _ _ _ _ _ _ _ _ _ _ _ _ _ (lst m c) (lst m (par c))))
  iapply (wp_val c (part44_val _ _ _ _ _ _ _ _ _ _ _ _ _ (lst m c) (lst m (par c))))
  iapply (wp_val c (part45_val _ _ _ _ _ _ _ _ _ _ _ _ _ (lst m c) (lst m (par c))))
  iapply (wp_val c (part46_val _ _ _ _ _ _ _ _ _ _ _ _ _ (lst m c) (lst m (par c))))
  iapply (wp_val c (part47_val _ _ _ _ _ _ _ _ _ _ _ _ _ (lst m c) (lst m (par c))))
  iapply (wp_val c (part48_val _ _ _ _ _ _ _ _ _ _ _ _ _ (lst m c) (lst m (par c))))
  iapply (wp_val c (part49_val _ _ _ _ _ _ _ _ _ _ _ _ _ (lst m c) (lst m (par c))))
  iapply (wp_val c (part50_val _ _ _ _ _ _ _ _ _ _ _ _ _ (lst m c) (lst m (par c))))
  iapply (wp_val c (part51_val _ _ _ _ _ _ _ _ _ _ _ _ _ (lst m c) (lst m (par c))))
  iapply (wp_val c (part52_val _ _ _ _ _ _ _ _ _ _ _ _ _ (lst m c) (lst m (par c))))
  iapply (wp_val c (part53_val _ _ _ _ _ _ _ _ _ _ _ _ _ (lst m c) (lst m (par c))))
  ihave HT := (sendT_intro c) $$ [HT Hoth]
  · iframe
  ihave HT := (BIBase.Entails.of_eq (bigSep_eight (fun p => sendT (F := F) c p))) $$ HT
  icases HT with ⟨T0, T1, T2, T3, T4, T5, T6, T7⟩
  iapply wp_seq
  iapply (wp_part54 m K c _ _ _ _ _ (pay454_val (lst m c) (lst m (par c)))) $$ [HO Hr T0 T1 T2 T3 T4 T5]
  · iframe HI; iframe
  iintro ⟨HO, S0, S1, S2, S3, S4, S5, Q6, Q7⟩
  iapply wp_seq
  iapply (wp_part55 m K c) $$ [HO T6 T7 Q6 Q7 R0 R1 R2 R3 R4 R5 R6 R7]
  · iframe HI; iframe Hlev; iframe
  iintro ⟨HO, S6, S7, HR⟩
  simp (config := {zeta := false}) only [Prog.lift, Prog.bind_op, Prog.bind_ret, Prog.bind_assoc, Prog.pure_eq_ret]
  iapply (wp_gswait m K c 0 (k0_cond25 c) (by clear * - c; revert c; decide) _ (at_gS 0) (sp := .vmem) (s := S128x32) (e := .f32) (sp' := .vmem) (s' := S128x32) (e' := .f32)
    (src := (fun h => oM.slice (Rect.unit (s := S1024x32) (k0_off19 c) S128x32.size (k0_off19_inb c h)) (fun _ => rfl)))
    (dst := (fun h => oM.slice (Rect.unit (s := S1024x32) (k0_off19 c) S128x32.size (k0_off19_inb c h)) (fun _ => rfl))) (fun _ => rfl)) $$ [HO S0 A0]
  · iframe HI; iframe Hlev; iframe HO S0 A0
  iintro ⟨HO, D0, E0⟩
  iapply wp_done
  iapply Hk
  unfold bodyMid sentD sentT
  rw [bigSep_eight (fun p => recvD m c p)]
  iframe

set_option maxHeartbeats 4000000 in
/-- The whole body. -/
theorem wp_body {Q : _ → sProp 𝕄} :
    iprop(recd m K ∗ levAts L lv ∗ bodyIn m c)
      ⊢ iprop((bodyOut m c -∗ Q ⟨⟩) -∗ WP c (cc0_body (F := F) aM (Memref.isWhole_whole _) oM (Memref.isWhole_whole _) vM (Memref.isWhole_whole _) eM (Memref.isWhole_whole _) cc0_scratch2 cc0_scratch3 cc0_scratch4 cc0_scratch5 cc0_scratch6) Q) := by
  iintro ⟨#HI, #Hlev, Hin⟩ Hk
  rw [cc0_body_eq_skeleton, cc0_body_skel]
  iapply wp_seq
  iapply (wp_part56 m K c) $$ [Hin]
  · iframe HI; iframe Hlev; iframe
  unfold bodyMid sentD sentT
  iintro ⟨HO, Hcp, L0, L1, HV, HR, ⟨D0, E0⟩, ⟨S1, A1⟩, ⟨S2, A2⟩, ⟨S3, A3⟩, ⟨S4, A4⟩, ⟨S5, A5⟩, ⟨S6, A6⟩, ⟨S7, A7⟩⟩
  simp (config := {zeta := false}) only [Prog.lift, Prog.bind_op, Prog.bind_ret, Prog.bind_assoc, Prog.pure_eq_ret]
  iapply (wp_gswait m K c 1 (k0_cond26 c) (by clear * - c; revert c; decide) _ (at_gS 1) (sp := .vmem) (s := S128x32) (e := .f32) (sp' := .vmem) (s' := S128x32) (e' := .f32)
    (src := (fun h => oM.slice (Rect.unit (s := S1024x32) (k0_off20 c) S128x32.size (k0_off20_inb c h)) (fun _ => rfl)))
    (dst := (fun h => oM.slice (Rect.unit (s := S1024x32) (k0_off20 c) S128x32.size (k0_off20_inb c h)) (fun _ => rfl))) (fun _ => rfl)) $$ [HO S1 A1]
  · iframe HI; iframe Hlev; iframe HO S1 A1
  iintro ⟨HO, D1, E1⟩
  iapply (wp_gswait m K c 2 (k0_cond27 c) (by clear * - c; revert c; decide) _ (at_gS 2) (sp := .vmem) (s := S128x32) (e := .f32) (sp' := .vmem) (s' := S128x32) (e' := .f32)
    (src := (fun h => oM.slice (Rect.unit (s := S1024x32) (k0_off21 c) S128x32.size (k0_off21_inb c h)) (fun _ => rfl)))
    (dst := (fun h => oM.slice (Rect.unit (s := S1024x32) (k0_off21 c) S128x32.size (k0_off21_inb c h)) (fun _ => rfl))) (fun _ => rfl)) $$ [HO S2 A2]
  · iframe HI; iframe Hlev; iframe HO S2 A2
  iintro ⟨HO, D2, E2⟩
  iapply (wp_gswait m K c 3 (k0_cond28 c) (by clear * - c; revert c; decide) _ (at_gS 3) (sp := .vmem) (s := S128x32) (e := .f32) (sp' := .vmem) (s' := S128x32) (e' := .f32)
    (src := (fun h => oM.slice (Rect.unit (s := S1024x32) (k0_off22 c) S128x32.size (k0_off22_inb c h)) (fun _ => rfl)))
    (dst := (fun h => oM.slice (Rect.unit (s := S1024x32) (k0_off22 c) S128x32.size (k0_off22_inb c h)) (fun _ => rfl))) (fun _ => rfl)) $$ [HO S3 A3]
  · iframe HI; iframe Hlev; iframe HO S3 A3
  iintro ⟨HO, D3, E3⟩
  iapply (wp_gswait m K c 4 (k0_cond29 c) (by clear * - c; revert c; decide) _ (at_gS 4) (sp := .vmem) (s := S128x32) (e := .f32) (sp' := .vmem) (s' := S128x32) (e' := .f32)
    (src := (fun h => oM.slice (Rect.unit (s := S1024x32) (k0_off23 c) S128x32.size (k0_off23_inb c h)) (fun _ => rfl)))
    (dst := (fun h => oM.slice (Rect.unit (s := S1024x32) (k0_off23 c) S128x32.size (k0_off23_inb c h)) (fun _ => rfl))) (fun _ => rfl)) $$ [HO S4 A4]
  · iframe HI; iframe Hlev; iframe HO S4 A4
  iintro ⟨HO, D4, E4⟩
  iapply (wp_gswait m K c 5 (k0_cond30 c) (by clear * - c; revert c; decide) _ (at_gS 5) (sp := .vmem) (s := S128x32) (e := .f32) (sp' := .vmem) (s' := S128x32) (e' := .f32)
    (src := (fun h => oM.slice (Rect.unit (s := S1024x32) (k0_off24 c) S128x32.size (k0_off24_inb c h)) (fun _ => rfl)))
    (dst := (fun h => oM.slice (Rect.unit (s := S1024x32) (k0_off24 c) S128x32.size (k0_off24_inb c h)) (fun _ => rfl))) (fun _ => rfl)) $$ [HO S5 A5]
  · iframe HI; iframe Hlev; iframe HO S5 A5
  iintro ⟨HO, D5, E5⟩
  iapply (wp_gswait m K c 6 (k0_cond31 c) (by clear * - c; revert c; decide) _ (at_gS 6) (sp := .vmem) (s := S128x32) (e := .f32) (sp' := .vmem) (s' := S128x32) (e' := .f32)
    (src := (fun h => oM.slice (Rect.unit (s := S1024x32) (k0_off25 c) S128x32.size (k0_off25_inb c h)) (fun _ => rfl)))
    (dst := (fun h => oM.slice (Rect.unit (s := S1024x32) (k0_off25 c) S128x32.size (k0_off25_inb c h)) (fun _ => rfl))) (fun _ => rfl)) $$ [HO S6 A6]
  · iframe HI; iframe Hlev; iframe HO S6 A6
  iintro ⟨HO, D6, E6⟩
  iapply (wp_gswait m K c 7 (k0_cond32 c) (by clear * - c; revert c; decide) _ (at_gS 7) (sp := .vmem) (s := S128x32) (e := .f32) (sp' := .vmem) (s' := S128x32) (e' := .f32)
    (src := (fun h => oM.slice (Rect.unit (s := S1024x32) (k0_off26 c) S128x32.size (k0_off26_inb c h)) (fun _ => rfl)))
    (dst := (fun h => oM.slice (Rect.unit (s := S1024x32) (k0_off26 c) S128x32.size (k0_off26_inb c h)) (fun _ => rfl))) (fun _ => rfl)) $$ [HO S7 A7]
  · iframe HI; iframe Hlev; iframe HO S7 A7
  iintro ⟨HO, D7, E7⟩
  iapply wp_done
  iapply Hk
  unfold bodyOut
  rw [bigSep_eight (fun p => sentD m c p)]
  unfold sentD
  iframe
end

end Cert.KernelIdeal.Run

end
-- ==== Proof.Buffers.lean ====
module

public import proofs.«01_k».proof.Proof.Body
public import Idealize.ShloMosaic.Lib.Pipeline.ValueKit.Geometry

/-!
# The buffers cut into the parts the body works on, and put together again
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-! ## The result block -/

/-- The row and column of a place inside its block of rows. -/
def inRow (i : S1024x32.Idx) : S128x32.Idx := fun a =>
  ⟨if a.val = 0 then (i 0).val % 128 else (i 1).val, by
    rcases a with ⟨_ | _ | a, ha⟩
    · show _ < 128
      rw [if_pos rfl]; exact Nat.mod_lt _ (by decide)
    · show _ < 32
      rw [if_neg Nat.one_ne_zero]; exact (i 1).isLt
    · exact absurd ha (by show ¬ (a + 2 < 2); omega)⟩
def blockRow (i : S1024x32.Idx) : Fin 8 := ⟨(i 0).val / 128, by have h : (i 0).val < 1024 := (i 0).isLt; omega⟩

/-- The whole result as device `c` holds it: each block of rows is what the device of that place of its group merged. -/
def outAt (c : Dev nD) : Vec F S1024x32 .f32 := fun i => mg m (at' c (blockRow i)) (inRow i)

theorem emb_rows (p : Fin 8) (j : S128x32.Idx) : blockRow ((rowsR p).emb j) = p ∧ inRow ((rowsR p).emb j) = j := by
  have e (a : Fin 2) : (((rowsR p).emb j) a).val = (![128 * p.val, 0] : Fin 2 → ℕ) a + (j a).val := Idealize.ShloMosaic.ValueKit.rect_emb_unit_val (s := S1024x32) ![128 * p.val, 0] S128x32.size (rows_inb p) j a
  have e0 : (((rowsR p).emb j) 0).val = 128 * p.val + (j 0).val := e 0
  have e1 : (((rowsR p).emb j) 1).val = 0 + (j 1).val := e 1
  have h0 : (j 0).val < 128 := (j 0).isLt
  refine ⟨Fin.ext ?_, funext fun a => Fin.ext ?_⟩
  · show (((rowsR p).emb j) 0).val / 128 = p.val
    rw [e0]; omega
  · rcases a with ⟨_ | _ | a, ha⟩
    · show (if (0 : ℕ) = 0 then (((rowsR p).emb j) 0).val % 128 else (((rowsR p).emb j) 1).val) = (j 0).val
      rw [if_pos rfl, e0]; omega
    · show (if (1 : ℕ) = 0 then (((rowsR p).emb j) 0).val % 128 else (((rowsR p).emb j) 1).val) = (j 1).val
      rw [if_neg Nat.one_ne_zero, e1]; omega
    · exact absurd ha (by show ¬ (a + 2 < 2); omega)

theorem outAt_rows (c : Dev nD) (p : Fin 8) : (fun j => outAt m c ((rowsR p).emb j)) = mg m (at' c p) := by
  funext j
  show mg m (at' c (blockRow ((rowsR p).emb j))) (inRow ((rowsR p).emb j)) = _
  rw [(emb_rows p j).1, (emb_rows p j).2]

/-! ## Splitting the buffers as the body uses them, and joining them again -/

section
variable (c : Dev nD)

theorem some_intro {sp : Space} {s : Shape} {e : EltTy} (r : Memref sig .tc sp s e) (X : s.Idx → Elt F e) :
    (owns (c : Thread nD τ) r fullShare X : sProp 𝕄) ⊢ some' c r := by
  unfold some'
  iintro H; iexists X; iexact H

theorem rows_split (f : Vec F S1024x32 .f32) : (((c : Thread nD τ).loc cc0_stg0_0) ↦{fullShare} f : sProp 𝕄)
    ⊢ iprop(some' c (rowsM (gi c)) ∗ bigSep Finset.univ fun p : Fin 8 => oth c p (some' c (rowsM p))) := by
  rw [← bigSep_oth c (fun p => some' c (rowsM p)), ← owns_whole]
  refine (owns_rects (c : Thread nD τ) oM fullShare rowsR (fun _ _ => rfl) rows_disjoint rows_cover f).trans (bigSep_mono fun p _ => ?_)
  exact some_intro c (rowsM p) _

theorem rows_join : iprop((bigSep Finset.univ fun p : Fin 8 => gSPay m c p) ∗ bigSep Finset.univ fun p : Fin 8 => oth c p (gRPay m c p))
    ⊢ (((c : Thread nD τ).loc cc0_stg0_0) ↦{fullShare} outAt m c : sProp 𝕄) := by
  have h1 : (bigSep Finset.univ fun p : Fin 8 => gSPay m c p) ⊢ (gRPay m c (gi c) : sProp 𝕄) := by
    unfold gRPay
    rw [at_gi]
    exact (deal m c).2
  refine (sep_mono_left h1).trans ?_
  rw [← bigSep_oth c (fun p => gRPay m c p), ← owns_whole]
  refine BIBase.Entails.trans (bigSep_mono fun p _ => ?_) (owns_of_rects (c : Thread nD τ) oM fullShare rowsR (fun _ _ => rfl) rows_disjoint rows_cover (outAt m c))
  exact Entails.of_eq (congrArg (owns (c : Thread nD τ) (rowsM p) fullShare) (outAt_rows m c p).symm)

theorem slab_split (f : Vec F S2x128x32 .f32) : (((c : Thread nD τ).loc cc0_scratch1) ↦{fullShare} f : sProp 𝕄)
    ⊢ iprop(some' c (slabM 0) ∗ some' c (sqM 1)) := by
  rw [← owns_whole]
  refine (owns_rects (c : Thread nD τ) eM fullShare slabR (fun _ _ => rfl) slab_disjoint slab_cover f).trans ?_
  rw [bigSep_eq_bigSepL_of_eq (S := (Finset.univ : Finset (Fin 2))) [0, 1] (by decide) (by decide)]
  show iprop(owns (c : Thread nD τ) (slabM 0) fullShare _ ∗ owns (c : Thread nD τ) (slabM 1) fullShare _) ⊢ _
  unfold some'
  iintro ⟨H0, H1⟩
  isplitl [H0]
  · iexists _; iexact H0
  · iexists _; iapply (owns_squeeze c 1 fullShare _) $$ H1

/-- Two lists as the contents of the exchange buffer. -/
def both (X Y : Vec F S1x128x32 .f32) : Vec F S2x128x32 .f32 := fun i =>
  let j : S1x128x32.Idx := fun a => ⟨if a.val = 0 then 0 else (i a).val, by
    rcases a with ⟨_ | _ | _ | a, ha⟩
    · show _ < 1
      rw [if_pos rfl]; exact Nat.one_pos
    · show _ < 128
      rw [if_neg Nat.one_ne_zero]; exact (i 1).isLt
    · show _ < 32
      rw [if_neg (show ¬ (2 = 0) by decide)]; exact (i 2).isLt
    · exact absurd ha (by show ¬ (a + 3 < 3); omega)⟩
  if (i 0).val = 0 then X j else Y j

theorem both_at (X Y : Vec F S1x128x32 .f32) (k : Fin 2) : (fun j => both X Y ((slabR k).emb j)) = if k = 0 then X else Y := by
  funext j
  have e (a : Fin 3) : (((slabR k).emb j) a).val = (![k.val, 0, 0] : Fin 3 → ℕ) a + (j a).val := Idealize.ShloMosaic.ValueKit.rect_emb_unit_val (s := S2x128x32) ![k.val, 0, 0] S1x128x32.size (slab_inb k) j a
  have h0 : (j 0).val = 0 := by have : (j 0).val < 1 := (j 0).isLt; omega
  have hj : ∀ h : ∀ a : Fin 3, (if a.val = 0 then 0 else (((slabR k).emb j) a).val) < S1x128x32.size a, (fun a : Fin 3 => (⟨if a.val = 0 then 0 else (((slabR k).emb j) a).val, h a⟩ : Fin (S1x128x32.size a))) = j := by
    intro h; funext a; refine Fin.ext ?_
    show (if a.val = 0 then 0 else (((slabR k).emb j) a).val) = (j a).val
    rcases a with ⟨_ | _ | _ | a, ha⟩
    · rw [if_pos rfl]; exact h0.symm
    · rw [if_neg Nat.one_ne_zero, e]; show 0 + _ = _; omega
    · rw [if_neg (by show ¬ (2 = 0); decide), e]; show 0 + _ = _; omega
    · exact absurd ha (by omega)
  unfold both
  dsimp only
  have e0 : (((slabR k).emb j) 0).val = k.val := by rw [e]; show k.val + _ = _; omega
  rw [e0]
  have hk : (k.val = 0) ↔ (k = 0) := ⟨fun h => Fin.ext h, fun h => by rw [h]; rfl⟩
  by_cases h : k = 0
  · rw [if_pos (hk.mpr h), if_pos h]; exact congrArg X (hj _)
  · rw [if_neg (fun e => h (hk.mp e)), if_neg h]; exact congrArg Y (hj _)

theorem slab_join (X Y : Vec F S1x128x32 .f32) : iprop(owns (c : Thread nD τ) (slabM 0) fullShare X ∗ owns (c : Thread nD τ) (slabM 1) fullShare Y)
    ⊢ (((c : Thread nD τ).loc cc0_scratch1) ↦{fullShare} both X Y : sProp 𝕄) := by
  rw [← owns_whole]
  refine BIBase.Entails.trans ?_ (owns_of_rects (c : Thread nD τ) eM fullShare slabR (fun _ _ => rfl) slab_disjoint slab_cover (both X Y))
  rw [bigSep_eq_bigSepL_of_eq (S := (Finset.univ : Finset (Fin 2))) [0, 1] (by decide) (by decide)]
  exact Entails.of_eq (congrArg₂ (fun A B : Vec F S1x128x32 .f32 => (iprop(owns (c : Thread nD τ) (slabM 0) fullShare A ∗ owns (c : Thread nD τ) (slabM 1) fullShare B) : sProp 𝕄))
    (both_at X Y 0).symm (both_at X Y 1).symm)

theorem v_split (f : Vec F S128x8192 .f32) : (((c : Thread nD τ).loc cc0_scratch0) ↦{fullShare} f : sProp 𝕄) ⊢ some' c vM := by
  rw [← owns_whole]
  unfold some'
  iintro H; iexists _; iexact H

/-- The rest of the argument block, which the device does not read. -/
def xRest : sProp 𝕄 := (c : Thread nD τ).loc main_arg0 ↦[Finset.univ \ (xM c).view.set]{fullShare} m ((c : Thread nD τ).loc main_arg0)
theorem x_split : (((c : Thread nD τ).loc main_arg0) ↦{fullShare} m ((c : Thread nD τ).loc main_arg0) : sProp 𝕄) ⊣⊢ iprop(xPt m c ∗ xRest m c) :=
  pointsTo_split_subset (Finset.subset_univ _)

end

end Cert.KernelIdeal.Run

end
-- ==== Proof.Ghost.lean ====
module

public import proofs.«01_k».proof.Proof.Body

/-!
# The tokens and records dealt at launch

Each device is dealt the tokens of the duties it pays, its own positions, and the records of all cells.
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

abbrev osem : Fin 19 → SemLoc sig := fun k => .dma ⟨k.val + 1, by have := k.isLt; show k.val + 1 < 20; omega⟩

/-! ## The tokens each device is dealt: those of the duties it pays -/

/-- What a device pays: one duty per kind of semaphore, and one signal per place of its group. -/
abbrev PK : Type := CK ⊕ Fin 8

def tokOf (x : Dev nD × PK) : GSem nD τ sig × ℕ × DD := match x.2 with
  | .inl (.inl k) => (if k = 0 ∨ k = 3 then cell (par x.1) (.inl k) else cell x.1 (.inl k), 0, none)
  | .inl (.inr (.inl p)) => (cell x.1 (.inr (.inl p)), 0, none)
  | .inl (.inr (.inr p)) => (cell (at' x.1 p) (.inr (.inr (gi x.1))), 0, none)
  | .inr p => (cell (at' x.1 p) (.inl 0), 0, some (gi x.1))

/-- The payer read off the token. -/
def payer (d : Dev nD) : CK → DD → Dev nD × PK
  | .inl k, none => (if k = 0 ∨ k = 3 then par d else d, .inl (.inl k))
  | .inl _, some q => (at' d q, .inr (gi d))
  | .inr (.inl p), _ => (d, .inl (.inr (.inl p)))
  | .inr (.inr q), _ => (at' d q, .inl (.inr (.inr (gi d))))

theorem payer_tokOf (x : Dev nD × PK) : payer (tokOf x).1.1.1 (kind (tokOf x).1.2) (tokOf x).2.2 = x := by
  rcases x with ⟨c, (k | p | p) | p⟩
  · show payer (if k = 0 ∨ k = 3 then cell (par c) (.inl k) else cell c (.inl k)).1.1
      (kind (if k = 0 ∨ k = 3 then cell (par c) (.inl k) else cell c (.inl k)).2) none = _
    by_cases h : k = 0 ∨ k = 3
    · rw [if_pos h]; show payer (par c) (kind (sl (.inl k))) none = _
      rw [kind_sl]; show (if k = 0 ∨ k = 3 then par (par c) else par c, _) = _
      rw [if_pos h, par_par]
    · rw [if_neg h]; show payer c (kind (sl (.inl k))) none = _
      rw [kind_sl]; show (if k = 0 ∨ k = 3 then par c else c, _) = _
      rw [if_neg h]
  · show payer c (kind (sl (.inr (.inl p)))) none = _
    rw [kind_sl]; rfl
  · show payer (at' c p) (kind (sl (.inr (.inr (gi c))))) none = _
    rw [kind_sl]; show (at' (at' c p) (gi c), _) = _
    rw [at_at, at_gi, gi_at]
  · show payer (at' c p) (kind (sl (.inl 0))) (some (gi c)) = _
    rw [kind_sl]; show (at' (at' c p) (gi c), _) = _
    rw [at_at, at_gi, gi_at]

theorem tokOf_inj : Function.Injective tokOf := fun a b h => by
  rw [← payer_tokOf a, ← payer_tokOf b, h]

def kcell (x : Dev nD × CK) : GSem nD τ sig := cell x.1 x.2
theorem kcell_inj : Function.Injective kcell := fun a b h => Prod.ext (cell_inj h).1 (cell_inj h).2

def allCells : Finset (GSem nD τ sig) := Finset.univ.map ⟨kcell, kcell_inj⟩
def allToks : Finset (GSem nD τ sig × ℕ × DD) := Finset.univ.map ⟨tokOf, tokOf_inj⟩

def u₀ : UU :=
  (initOf (Pipeline.cells cfgs cellOf_inj) (Pipeline.launchToks cfgs cellOf_inj), initOf allCells allToks)

def tok (x : Dev nD × PK) : sProp 𝕄 := dutyTok ER (tokOf x).1 (tokOf x).2.1 (tokOf x).2.2

/-- What the launch deals device `c`. -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0))
    ∗ bigSep Finset.univ fun j : PK => tok (c, j))

/-- What it is after the cells are opened: the records of all cells, its own positions and the tokens it pays with. -/
def G' (c : Dev nD) : sProp 𝕄 :=
  iprop(∃ K, recd m K ∗ (bigSep Finset.univ fun k : CK => atPos ER (cell c k) 0 ∅ 0) ∗ bigSep Finset.univ fun j : PK => tok (c, j))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : PK => tok (c, j) := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores of a device: the kernel's own nineteen and the barrier. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [Pipeline.ownSems0_eq_of_list c osem [0, 1, 2, 3, 4, 5, 6, 7, 8, 9, 10, 11, 12, 13, 14, 15, 16, 17, 18] (by decide) (by decide)]
  rw [bigSep_eq_bigSepL_of_eq (S := (Finset.univ : Finset CK)) [.inl 0, .inl 1, .inl 2, .inl 3,
    .inr (.inl 0), .inr (.inl 1), .inr (.inl 2), .inr (.inl 3), .inr (.inl 4), .inr (.inl 5), .inr (.inl 6), .inr (.inl 7),
    .inr (.inr 0), .inr (.inr 1), .inr (.inr 2), .inr (.inr 3), .inr (.inr 4), .inr (.inr 5), .inr (.inr 6), .inr (.inr 7)] (by decide) (by decide)]
  unfold unscopedSems0; rw [bigSep_eq_bigSepL_of_eq [SemLoc.reg barrier0] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ bigSep Finset.univ fun j : PK => tok (c, j)) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ bigSep Finset.univ fun j : PK => tok (c, j)) : sProp 𝕄)
      ⊢ bigSep Finset.univ (G' m) := by
  rw [bigSep_sep', bigSep_sep', ← bigSep_univ_prod (fun ck : Dev nD × CK => iprop(∃ κ : ℕ, cellInv ER (Rd m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  iapply (with_persistent (R := recd m K)
    (Φ := fun c => iprop((bigSep Finset.univ fun k : CK => atPos ER (cell c k) 0 ∅ 0) ∗ bigSep Finset.univ fun j : PK => tok (c, j))) fun c _ => by
      unfold G'
      iintro ⟨H1, H2⟩
      iexists K
      isplitl [H1] <;> iassumption)
  isplitr
  · unfold recd; rw [bigSep_sep']
    isplitl; · iexact HI
    iexact HR
  · rw [bigSep_sep']
    isplitl [Hat]; · iexact Hat
    iexact Htok

/-- All devices' semaphores are put under the protocol at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Run

end
-- ==== Proof.Credit.lean ====
module

public import proofs.«01_k».proof.Proof.Body

/-!
# The credit dealt at launch

What all devices together owe a device's semaphores: eight units of its barrier, and the bytes of what it receives.
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- How much of the tally at `cell d k` sits at `cell e l`. -/
theorem tally_at (d e : Dev nD) (k l : CK) (a : ℕ) :
    (tallyAt (cell d k) () a : CellTallies nD τ sig Unit) (cell e l) () = if d = e ∧ k = l then a else 0 := by
  rw [tallyAt_apply]
  refine if_congr ⟨fun h => ?_, fun h => ?_⟩ rfl rfl
  · have := cell_inj h.1; exact ⟨this.1.symm, this.2.symm⟩
  · obtain ⟨h1, h2⟩ := h; subst h1; subst h2; exact ⟨rfl, rfl⟩

/-- What device `d` owes the semaphore `k` of device `c`, as sums over its places. -/
theorem owed_at (d c : Dev nD) (k : CK) : O₀ d (cell c k) () =
    (∑ p : Fin 8, if at' d p = c ∧ (.inr (.inr (gi d)) : CK) = k then (if p = gi d then 0 else N) else 0)
    + (if par d = c ∧ (.inl 3 : CK) = k then N else 0)
    + (∑ p : Fin 8, if at' d p = c ∧ (.inl 0 : CK) = k then (if p = gi d then 0 else 1) else 0)
    + (if par d = c ∧ (.inl 0 : CK) = k then 1 else 0) := by
  unfold O₀ sigs recs recO sigO exO parO
  simp only [Pi.add_apply, Finsupp.add_apply, tally_at]
  rw [show (0 : CellTallies nD τ sig Unit) (cell c k) () = 0 from rfl, Fin.sum_univ_eight, Fin.sum_univ_eight]
  omega

theorem sum_bar : ∀ c : Dev nD, (∑ d : Dev nD, ((∑ p : Fin 8, if at' d p = c then (if p = gi d then 0 else 1) else 0) + (if par d = c then 1 else 0))) = 8 := by decide
theorem par_iff (d c : Dev nD) : par d = c ↔ d = par c := by revert d c; decide
theorem at_iff (d c : Dev nD) (p q : Fin 8) : (at' d p = c ∧ gi d = q) ↔ (d = at' c q ∧ p = gi c) := by
  constructor
  · rintro ⟨rfl, rfl⟩; rw [at_at, at_gi, gi_at]; exact ⟨rfl, rfl⟩
  · rintro ⟨rfl, rfl⟩; rw [at_at, at_gi, gi_at]; exact ⟨rfl, rfl⟩

theorem launch_at (c : Dev nD) (k : CK) (n : ℕ) (h : (∑ d : Dev nD, O₀ d (cell c k) ()) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem no_ctor : ((3 : Fin 4) = 0) = False ∧ ((0 : Fin 4) = 3) = False := by decide

theorem owed_bar (c : Dev nD) : (∑ d : Dev nD, O₀ d (cell c (.inl 0)) ()) = 8 := by
  refine Eq.trans (Finset.sum_congr rfl fun d _ => ?_) (sum_bar c)
  rw [owed_at]
  simp only [reduceCtorEq, and_false, if_false, Finset.sum_const_zero, Nat.zero_add, and_true, Sum.inl.injEq, no_ctor.1]

theorem owed_ex (c : Dev nD) : (∑ d : Dev nD, O₀ d (cell c (.inl 3)) ()) = N := by
  refine Eq.trans (Finset.sum_congr rfl fun d _ => (?_ : _ = if d = par c then N else 0)) ?_
  · rw [owed_at]
    simp only [reduceCtorEq, and_false, if_false, Finset.sum_const_zero, Nat.zero_add, Nat.add_zero, and_true, Sum.inl.injEq, no_ctor.2, par_iff]
  · rw [Finset.sum_ite_eq' Finset.univ (par c) fun _ => N, if_pos (Finset.mem_univ _)]

theorem owed_gR (c : Dev nD) (q : Fin 8) : (∑ d : Dev nD, O₀ d (cell c (.inr (.inr q))) ()) = if q = gi c then 0 else N := by
  have hz (d : Dev nD) : O₀ d (cell c (.inr (.inr q))) ()
      = ∑ p : Fin 8, if d = at' c q ∧ p = gi c then (if gi c = q then 0 else N) else 0 := by
    rw [owed_at]
    simp only [reduceCtorEq, and_false, if_false, Finset.sum_const_zero, Nat.add_zero, Sum.inr.injEq]
    refine Finset.sum_congr rfl fun p _ => ?_
    by_cases h : at' d p = c ∧ gi d = q
    · have h' := (at_iff d c p q).mp h
      rw [if_pos ⟨h.1, by rw [h.2]⟩, if_pos h', h'.2, h.2]
    · rw [if_neg (fun e => h ⟨e.1, by have := e.2; simpa using this⟩), if_neg (fun e => h ((at_iff d c p q).mpr e))]
  rw [Finset.sum_congr rfl fun d _ => hz d, Finset.sum_eq_single_of_mem (at' c q) (Finset.mem_univ _),
    Finset.sum_eq_single_of_mem (gi c) (Finset.mem_univ _), if_pos ⟨rfl, rfl⟩]
  · exact if_congr eq_comm rfl rfl
  · intro p _ hp; exact if_neg fun h => hp h.2
  · intro d _ hd; exact Finset.sum_eq_zero fun p _ => if_neg fun h => hd h.1

theorem bigSep_kinds (Φ : CK → sProp 𝕄) : bigSep Finset.univ Φ
    = iprop((bigSep Finset.univ fun k => Φ (.inl k)) ∗ (bigSep Finset.univ fun p => Φ (.inr (.inl p))) ∗ bigSep Finset.univ fun p => Φ (.inr (.inr p))) := by
  rw [BI.bigSep_univ_sum, BI.bigSep_univ_sum]; rfl

/-- The credit a device waits on. -/
def credits (c : Dev nD) : sProp 𝕄 :=
  iprop((cred (tallyAt (cell c (.inl 0)) () 8) ∗ cred (tallyAt (cell c (.inl 3)) () N))
    ∗ bigSep Finset.univ fun p : Fin 8 => cred (tallyAt (cell c (.inr (.inr p))) () (if p = gi c then 0 else N)))

theorem creds (c : Dev nD) : (Pipeline.launchCred O₀ c : sProp 𝕄) ⊢ credits c := by
  have h : (Pipeline.launchCred O₀ c : sProp 𝕄) ⊢ bigSep Finset.univ fun k : CK => cred (tallyOn (cell c k) (launchCredit (Pipeline.owing O₀) 0 (cell c k))) := by
    unfold Pipeline.launchCred
    refine BIBase.Entails.trans (bigSep_subset (Finset.subset_univ (Finset.univ.map ⟨sl, sl_inj⟩))) ?_
    rw [bigSep_map]
    exact Entails.of_eq rfl
  refine h.trans ?_
  unfold credits
  rw [bigSep_kinds, bigSep_univ_at _ (0 : Fin 4), launch_at c _ _ (owed_bar c),
    bigSep_congr (s := Finset.univ) (fun (p : Fin 8) _ => congrArg cred (launch_at c (.inr (.inr p)) _ (owed_gR c p)))]
  iintro ⟨⟨H0, H3⟩, -, H⟩
  isplitl [H0 H3]
  · isplitl [H0]; · iexact H0
    rw [← launch_at c _ _ (owed_ex c)]
    iapply (show (bigSep (Finset.univ.erase (0 : Fin 4)) fun k => cred (tallyOn (cell c (.inl k)) (launchCredit (Pipeline.owing O₀) 0 (cell c (.inl k)))) : sProp 𝕄)
      ⊢ cred (tallyOn (cell c (.inl 3)) (launchCredit (Pipeline.owing O₀) 0 (cell c (.inl 3)))) from
      bigSep_elim (Finset.mem_erase.mpr ⟨show (3 : Fin 4) ≠ 0 by decide, Finset.mem_univ _⟩)) $$ H3
  · iexact H

end Cert.KernelIdeal.Run

end
-- ==== Proof.Point.lean ====
module

public import proofs.«01_k».proof.Proof.Buffers
public import proofs.«01_k».proof.Proof.Ghost
public import proofs.«01_k».proof.Proof.Credit

/-!
# The body as the pipeline calls it, from what is dealt at launch to what is given back
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

section
variable (c : Dev nD)

theorem bigSep_four (Φ : Fin 4 → sProp 𝕄) : bigSep Finset.univ Φ = iprop(Φ 0 ∗ Φ 1 ∗ Φ 2 ∗ Φ 3) := by
  rw [bigSep_eq_bigSepL_of_eq [0, 1, 2, 3] (by decide) (by decide)]; rfl

/-- What a device holds when its kernel starts, besides its buffers. -/
def start : sProp 𝕄 := iprop(G' m c ∗ credits c ∗ levAts L lv ∗ xPt m c)

def hold0 : sProp 𝕄 := iprop(∃ f : Vec F S128x8192 .f32, ((c : Thread nD τ).loc cc0_scratch0) ↦{fullShare} f)
def hold1 : sProp 𝕄 := iprop(∃ f : Vec F S2x128x32 .f32, ((c : Thread nD τ).loc cc0_scratch1) ↦{fullShare} f)

def Φ₀ : sProp 𝕄 := iprop(start m c ∗ hold0 c ∗ hold1 c)
def Φ₁ : sProp 𝕄 := iprop((bigSep Finset.univ fun k : CK => semVal (cell c k) 0) ∗ xPt m c ∗ hold0 c ∗ hold1 c)

/-- The tokens in the order the body uses them. -/
theorem toks_split : (bigSep Finset.univ fun j : PK => tok (c, j) : sProp 𝕄)
    = iprop(((dutyTok ER (cell (par c) (.inl 0)) 0 none ∗ dutyTok ER (cell c (.inl 1)) 0 none ∗ dutyTok ER (cell c (.inl 2)) 0 none ∗ dutyTok ER (cell (par c) (.inl 3)) 0 none)
        ∗ (bigSep Finset.univ fun p : Fin 8 => dutyTok ER (cell c (.inr (.inl p))) 0 none)
        ∗ (bigSep Finset.univ fun p : Fin 8 => dutyTok ER (cell (at' c p) (.inr (.inr (gi c)))) 0 none))
      ∗ (bigSep Finset.univ fun p : Fin 8 => dutyTok ER (cell (at' c p) (.inl 0)) 0 (some (gi c)))) := by
  rw [BI.bigSep_univ_sum, bigSep_kinds, bigSep_four]
  rfl

theorem enter (f : Vec F S1024x32 .f32) (W : Finset (SemLoc sig × Unit)) :
    iprop(Φ₀ m c ∗ owes (c : Thread nD τ) (O₀ c) W ∗ ((c : Thread nD τ).loc cc0_stg0_0) ↦{fullShare} f)
      ⊢ iprop(∃ K, recd m K ∗ levAts L lv ∗ bodyIn m c) := by
  unfold Φ₀ start G' credits hold0 hold1
  rw [toks_split, bigSep_kinds, bigSep_four]
  iintro ⟨⟨⟨⟨%K, #HR, ⟨⟨Ha0, Ha1, Ha2, Ha3⟩, HaS, HaR⟩, ⟨⟨Ht0, Ht1, Ht2, Ht3⟩, HtS, HtR⟩, HtB⟩, ⟨⟨Hc0, Hc3⟩, HcR⟩, #HL, Hx⟩, ⟨%f0, H0⟩, ⟨%f1, H1⟩⟩, HO, Hf⟩
  ihave Hv := (v_split c f0) $$ H0
  ihave He := (slab_split c f1) $$ H1
  icases He with ⟨He0, He1⟩
  ihave Ho := (rows_split c f) $$ Hf
  icases Ho with ⟨Hg, Ho⟩
  iexists K
  isplitr; · iexact HR
  isplitr; · iexact HL
  unfold bodyIn
  isplitl [HO]; · iexists W; iexact HO
  isplitl [Hx]; · iexact Hx
  isplitl [Hv]; · iexact Hv
  isplitl [He0]; · iexact He0
  isplitl [He1]; · iexact He1
  isplitl [Hg]; · iexact Hg
  isplitl [Ht0 Ht1 Ht2 Ht3]
  · isplitl [Ht1]; · iexact Ht1
    isplitl [Ht0]; · iexact Ht0
    isplitl [Ht3]; · iexact Ht3
    iexact Ht2
  isplitl [Hc0 Hc3]
  · isplitl [Hc0]; · iexact Hc0
    iexact Hc3
  isplitl [Ha0 Ha1 Ha2 Ha3]
  · isplitl [Ha0]; · iexact Ha0
    isplitl [Ha1]; · iexact Ha1
    isplitl [Ha2]; · iexact Ha2
    iexact Ha3
  isplitl [HtB Ho]
  · unfold sigT; rw [bigSep_sep']
    isplitl [HtB]; · iexact HtB
    iexact Ho
  isplitl [HtS HtR]
  · unfold rightT; rw [bigSep_sep']
    isplitl [HtR]; · iexact HtR
    iexact HtS
  isplitl [HcR HaR]
  · unfold recvT; rw [bigSep_sep']
    isplitl [HcR]; · iexact HcR
    iexact HaR
  iexact HaS

theorem leave : bodyOut m c ⊢ iprop(Φ₁ m c ∗ (∃ W, owes (c : Thread nD τ) 0 W) ∗ ((c : Thread nD τ).loc cc0_stg0_0) ↦{fullShare} outAt m c) := by
  unfold bodyOut copyPay recvD sentD Φ₁ hold0 hold1 xPt
  rw [bigSep_sep', bigSep_sep', bigSep_kinds, bigSep_four, owns_whole]
  iintro ⟨HO, ⟨Hv, Hx⟩, He0, He1, ⟨Hs0, Hs1, Hs2, Hs3⟩, ⟨HR, HzR⟩, ⟨HS, HzS⟩⟩
  ihave He := (slab_join c _ _) $$ [He0 He1]
  · isplitl [He0] <;> iassumption
  ihave Ho := (rows_join m c) $$ [HR HS]
  · isplitl [HS] <;> iassumption
  isplitl [Hs0 Hs1 Hs2 Hs3 HzR HzS Hx Hv He]
  · isplitl [Hs0 Hs1 Hs2 Hs3 HzR HzS]
    · isplitl [Hs0 Hs1 Hs2 Hs3]
      · isplitl [Hs0]; · iexact Hs0
        isplitl [Hs1]; · iexact Hs1
        isplitl [Hs2]; · iexact Hs2
        iexact Hs3
      isplitl [HzS] <;> iassumption
    isplitl [Hx]; · iexact Hx
    isplitl [Hv]
    · iexists _; iexact Hv
    · iexists _; iexact He
  isplitl [HO]; · iexact HO
  iexact Ho

end

/-! ## The pipeline's data: one point, at which the body runs -/

section
variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with | ⟨0, _⟩ => outAt m c
  Φ t := match t with | ⟨0, _⟩ => Φ₀ m c | ⟨_ + 1, _⟩ => Φ₁ m c
  q _ := fullShare
  owed t := match t with | ⟨0, _⟩ => O₀ c | ⟨_ + 1, _⟩ => 0

abbrev stg (c : Dev nD) (X : Vec F S1024x32 .f32) : sProp 𝕄 := iprop(∃ f : Vec F S1024x32 .f32, ⌜f = X⌝ ∗ ((c : Thread nD τ).loc cc0_stg0_0) ↦{fullShare} f)

set_option maxHeartbeats 2000000 in
set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc ∗ (∃ d, stg c ((dats m ρ 0 c).before (0 : Fin 1) t0_0 d)))
    ⊢ WP c (cc0_body aM (Memref.isWhole_whole _) oM (Memref.isWhole_whole _) vM (Memref.isWhole_whole _) eM (Memref.isWhole_whole _) cc0_scratch2 cc0_scratch3 cc0_scratch4 cc0_scratch5 cc0_scratch6)
      (fun _ => iprop(Φ₁ m c ∗ (dats m ρ 0 c).owesAt () t0_0.succ ∗ stg c (outAt m c)))
  unfold Dat.owesAt Pipeline.owesWithin
  rw [show (dats m ρ 0 c).owed t0_0.castSucc = O₀ c from rfl, show (dats m ρ 0 c).owed t0_0.succ = 0 from rfl]
  iintro ⟨HΦ, ⟨%W, %hW, HO⟩, ⟨%d, %f, %hf, Hf⟩⟩
  ihave H := (enter m c f W) $$ [HΦ HO Hf]
  · isplitl [HΦ]; · iexact HΦ
    isplitl [HO] <;> iassumption
  icases H with ⟨%K, H⟩
  iapply (wp_body m K c) $$ H
  iintro H
  ihave H := (leave m c) $$ H
  icases H with ⟨HΦ, ⟨%W', HO⟩, Hf⟩
  isplitl [HΦ]; · iexact HΦ
  isplitl [HO]
  · iexists W'
    isplitr; · ipureintro; exact fun _ _ => Or.inl trivial
    iexact HO
  iexists _; isplitr; · (ipureintro; rfl)
  iexact Hf

end

end Cert.KernelIdeal.Run

end
-- ==== Proof.Launch.lean ====
module

public import proofs.«01_k».proof.Proof.Point
public import Idealize.ShloMosaic.Lib.Pipeline.CollectiveSegs

/-!
# The launch: the run of all devices, and what it leaves
-/

@[expose] public section

noncomputable section

namespace Cert.KernelIdeal.Run

open Cert.KernelIdeal Cert.KernelIdeal.Gen Cert.KernelIdeal.Top
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

variable (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ xRest m c) := by
  rw [Pipeline.unscopedRestP_none]
  iintro ⟨Hr, Hlev, Hcr, -, HG⟩
  ihave Hr := (Entails.of_eq (unscopedRest0_eq c (fun b => m ((c : Thread nD τ).loc b)))) $$ Hr
  ihave Hr := ((x_split m c).1) $$ Hr
  icases Hr with ⟨Hx, Hxr⟩
  ihave Hc := (creds (F := F) c) $$ Hcr
  imodintro
  unfold start
  isplitr [Hxr]
  · isplitl [HG]; · iexact HG
    isplitl [Hc]; · iexact Hc
    isplitl [Hlev]; · iexact Hlev
    iexact Hx
  · iexact Hxr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ hold0 hold1
  iintro ⟨Hs, -, Hr0, Hr1⟩
  isplitl [Hs]; · iexact Hs
  isplitl [Hr0]; · iexact Hr0
  iexact Hr1

theorem phi1_exit (c : Dev nD) :
    (dats m ρ 0 c).Φ (Fin.last cfg0.N) ⊢ iprop((unscopedSems0 c ∗ xPt m c) ∗ Pipeline.ownSems0 osem c ∗ Pipeline.scopedRest cfg0.spec c) := by
  rw [show (dats m ρ 0 c).Φ (Fin.last cfg0.N) = Φ₁ m c from rfl, scopedRest0_eq]
  unfold Φ₁ hold0 hold1
  rw [← sems0_eq]
  iintro ⟨⟨Hu, Ho⟩, Hx, H0, H1⟩
  isplitl [Hu Hx]
  · isplitl [Hu] <;> iassumption
  isplitl [Ho]; · iexact Ho
  isplitl [H0]; · iexact H0
  iexact H1

theorem mayWait_stage (c : Dev nD) (sm : SemLoc sig) (h : lvK (kind sm) = 0) (O : CellTallies nD τ sig Unit) (hO : High 0 O) :
    (levAts L lv : sProp 𝕄) ⊢ MayWait (c : Thread nD τ) sm () O :=
  Pipeline.mayWait_of_levAts (by rw [L_tc]; exact Finset.mem_singleton_self _)
    (fun g i hg => ⟨by unfold L; rw [if_pos (hO g i hg).1]; exact Finset.mem_singleton_self _, by show lvK (kind sm) < _; rw [h]; exact (hO g i hg).2⟩)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact high_O₀ c
      · exact High.zero 0)

/-! ### The run -/

theorem final_out (c : Dev nD) : (dats m ρ 0 c).arrAt (0 : Fin cfg0.W) cfg0.N = outAt m c :=
  (dats m ρ 0 c).arrAt_eq_of_after_last (0 : Fin cfg0.W) t0_0 (by decide +kernel) (outAt m c) (fun j => rfl)

/-- What the machine holds after the run: the merged rows of every place in the result of every device, the
    argument as it was, and every semaphore at zero. -/
def Post (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)) ∧ r.2.sem = fun _ => 0

/-- The part of the argument the device reads and the rest of it, as the machine holds them at the end. -/
theorem arg_read (c : Dev nD) (s' : Phys nD τ sig (Elt F)) :
    iprop((unscopedSems0 c ∗ xPt m c) ∗ xRest m c ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') := by
  iintro ⟨⟨Hu, Hx⟩, Hr, HSI⟩
  ihave Ha := ((x_split m c).2) $$ [Hx Hr]
  · isplitl [Hx] <;> iassumption
  imod (Pipeline.unscopedSems0_read (X := unscopedSems0 c) (c := c) fupd_intro s') $$ [Hu HSI] with ⟨%hs, HSI⟩
  · isplitl [Hu] <;> iassumption
  ihave %ha := (show iprop(SI s' ∗ ((c : Thread nD τ).loc main_arg0) ↦{fullShare} m ((c : Thread nD τ).loc main_arg0)) ⊢ (⌜∀ i ∈ Finset.univ, s'.mem.mem ((c : Thread nD τ).loc main_arg0) i = m ((c : Thread nD τ).loc main_arg0) i⌝ : sProp 𝕄) from SI_pointsTo_agree) $$ [HSI Ha]
  · isplitl [HSI] <;> iassumption
  imodintro
  isplitr
  · ipureintro
    exact ⟨hs, funext fun i => ha i (Finset.mem_univ i)⟩
  · iexact HSI

set_option maxHeartbeats 2000000 in
set_option maxRecDepth 8000 in
/-- From any memory with every counter at zero, every fair execution of the sixteen kernels terminates in `Post`. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ xPt m c)) (Z := xRest m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := arg_read m)
    (hQ := fun _ h hs => ⟨fun c => ⟨((h c).1 (0 : Fin 1)).trans (final_out m ρ c), (h c).2.2.2⟩, sem_eq_zero hs fun c => (h c).2.2.1⟩)

end Cert.KernelIdeal.Run

end
-- ==== Proof.Rank.lean ====
/-
  Choosing the greatest value of a finite family again and again, wiping what was chosen.

  A family `f : ι → EReal` is read in rounds.  A round takes the greatest value and overwrites every entry equal to it by
  minus infinity.  `pick f k` is what round `k` takes.  The rounds read the different values of the family in descending
  order, so they depend on the set of values alone, and on the part of it above a bound as far as the values taken lie
  above that bound.
-/
module

public import Idealize.ShloMosaic.PureOps.Ideal.Laws

@[expose] public section

noncomputable section

namespace Cert.Rank

open Classical

variable {ι : Type*} [Fintype ι]

/-- The greatest value of a family, minus infinity when it has none. -/
def peak (f : ι → EReal) : EReal := Finset.univ.sup f

/-- The family with the entries equal to its greatest value overwritten by minus infinity. -/
def wipe (f : ι → EReal) : ι → EReal := fun i => if f i = peak f then ⊥ else f i

/-- The overwriting, however the equality is decided. -/
theorem ite_eq_wipe (f : ι → EReal) (i : ι) (d : Decidable (f i = peak f)) :
    @ite EReal (f i = peak f) d ⊥ (f i) = wipe f i := by
  unfold wipe
  congr

/-- The family before round `k`. -/
def left (f : ι → EReal) : ℕ → ι → EReal
  | 0 => f
  | k + 1 => wipe (left f k)

/-- What round `k` takes. -/
def pick (f : ι → EReal) (k : ℕ) : EReal := peak (left f k)

theorem le_peak (f : ι → EReal) (i : ι) : f i ≤ peak f := Finset.le_sup (f := f) (Finset.mem_univ i)

theorem peak_le {f : ι → EReal} {b : EReal} (h : ∀ i, f i ≤ b) : peak f ≤ b := Finset.sup_le fun i _ => h i

/-- The greatest value is one of the values, or minus infinity. -/
theorem peak_mem (f : ι → EReal) : peak f = ⊥ ∨ ∃ i, f i = peak f := by
  by_cases hι : Nonempty ι
  · obtain ⟨i, -, hi⟩ := Finset.exists_mem_eq_sup Finset.univ Finset.univ_nonempty f
    exact .inr ⟨i, hi.symm⟩
  · refine .inl (le_bot_iff.1 (peak_le fun i => (hι ⟨i⟩).elim))

/-- An entry before round `k`: itself if no earlier round took its value, else minus infinity. -/
theorem left_eq (f : ι → EReal) (k : ℕ) (i : ι) : left f k i = if ∃ j < k, f i = pick f j then ⊥ else f i := by
  induction k with
  | zero => simp [left]
  | succ k ih =>
    have hs : left f (k + 1) i = if left f k i = pick f k then ⊥ else left f k i := rfl
    rw [hs, ih]
    by_cases h : ∃ j < k, f i = pick f j
    · have h' : ∃ j < k + 1, f i = pick f j := by
        obtain ⟨j, hj, e⟩ := h
        exact ⟨j, by omega, e⟩
      rw [if_pos h, if_pos h']
      split <;> rfl
    · rw [if_neg h]
      by_cases e : f i = pick f k
      · rw [if_pos e, if_pos ⟨k, by omega, e⟩]
      · rw [if_neg e, if_neg]
        rintro ⟨j, hj, e'⟩
        rcases Nat.lt_succ_iff_lt_or_eq.1 hj with hj | rfl
        · exact h ⟨j, hj, e'⟩
        · exact e e'

/-- What a round takes is a value of the family, or minus infinity. -/
theorem pick_mem (f : ι → EReal) (k : ℕ) : pick f k = ⊥ ∨ ∃ i, f i = pick f k := by
  rcases peak_mem (left f k) with h | ⟨i, hi⟩
  · exact .inl h
  · rw [left_eq] at hi
    split at hi
    · exact .inl hi.symm
    · exact .inr ⟨i, hi⟩

/-- A value no round before `n` took is below what each of them took. -/
theorem lt_pick {f : ι → EReal} {n : ℕ} {i : ι} (h : ∀ j < n, f i ≠ pick f j) {j : ℕ} (hj : j < n) : f i < pick f j := by
  refine lt_of_le_of_ne ?_ (h j hj)
  have := le_peak (left f j) i
  rwa [left_eq, if_neg] at this
  rintro ⟨l, hl, e⟩
  exact h l (by omega) e

/-- A later round takes another value, unless it finds nothing. -/
theorem pick_ne {f : ι → EReal} {j k : ℕ} (hjk : j < k) (hb : pick f k ≠ ⊥) : pick f k ≠ pick f j := by
  intro e
  rcases peak_mem (left f k) with h | ⟨i, hi⟩
  · exact hb h
  · rw [left_eq] at hi
    split at hi
    · exact hb hi.symm
    · rename_i hn
      exact hn ⟨j, hjk, hi.trans e⟩

/-- A value that `n` rounds leave out has at least `n` different values above it. -/
theorem le_card_above {f : ι → EReal} {n : ℕ} {i : ι} (h : ∀ j < n, f i ≠ pick f j) :
    n ≤ ((Finset.univ.image f).filter (f i < ·)).card := by
  have hb : ∀ j < n, pick f j ≠ ⊥ := fun j hj e => absurd (lt_pick h hj) (by rw [e]; exact not_lt_bot)
  have := Finset.card_le_card_of_injOn (s := Finset.range n) (t := (Finset.univ.image f).filter (f i < ·)) (pick f)
    (fun j hj => by
      have hj := Finset.mem_range.1 hj
      refine Finset.mem_coe.2 (Finset.mem_filter.2 ⟨?_, lt_pick h hj⟩)
      obtain ⟨l, hl⟩ := (pick_mem f j).resolve_left (hb j hj)
      exact Finset.mem_image.2 ⟨l, Finset.mem_univ _, hl⟩)
    (fun a ha b hb' e => by
      have ha := Finset.mem_range.1 ha
      have hb' := Finset.mem_range.1 hb'
      rcases lt_trichotomy a b with hab | hab | hab
      · exact absurd e.symm (pick_ne hab (hb b hb'))
      · exact hab
      · exact absurd e (pick_ne hab (hb a ha)))
  simpa using this

/-- A value that `n` rounds leave out is one of more than `n` entries at least as great. -/
theorem lt_card_atLeast {f : ι → EReal} {n : ℕ} {i : ι} (h : ∀ j < n, f i ≠ pick f j) :
    n < (Finset.univ.filter fun a => f i ≤ f a).card := by
  have h1 := le_card_above h
  have h2 : insert (f i) ((Finset.univ.image f).filter (f i < ·)) ⊆ (Finset.univ.filter fun a => f i ≤ f a).image f := by
    intro v hv
    rcases Finset.mem_insert.1 hv with rfl | hv
    · exact Finset.mem_image.2 ⟨i, by simp, rfl⟩
    · obtain ⟨hv, hlt⟩ := Finset.mem_filter.1 hv
      obtain ⟨a, -, rfl⟩ := Finset.mem_image.1 hv
      exact Finset.mem_image.2 ⟨a, by simpa using hlt.le, rfl⟩
  have h3 := (Finset.card_le_card h2).trans Finset.card_image_le
  rw [Finset.card_insert_of_notMem (by simp)] at h3
  omega

/-- A list of the greatest different values: descending, strictly until minus infinity is reached. -/
structure Heads (n : ℕ) (s : ℕ → EReal) : Prop where
  anti : ∀ j k, j ≤ k → k < n → s k ≤ s j
  strict : ∀ j k, j < k → k < n → s k ≠ ⊥ → s k < s j

/-- A family follows the list `s`: it has every value of the list, and each of its values is in the list or below it. -/
structure Follows (n : ℕ) (s : ℕ → EReal) (f : ι → EReal) : Prop where
  has : ∀ k < n, s k ≠ ⊥ → ∃ i, f i = s k
  only : ∀ i, f i ≠ ⊥ → (∃ k < n, f i = s k) ∨ ∀ k < n, f i < s k

/-- The rounds over a family that follows the list read the list. -/
theorem pick_eq {n : ℕ} {s : ℕ → EReal} {f : ι → EReal} (hs : Heads n s) (hf : Follows n s f) (k : ℕ) (hk : k < n) :
    pick f k = s k := by
  induction k using Nat.strong_induction_on with
  | _ k ih =>
    refine le_antisymm (peak_le fun i => ?_) ?_
    · rw [left_eq]
      split
      · exact bot_le
      · rename_i hn
        by_cases hb : f i = ⊥
        · rw [hb]; exact bot_le
        · rcases hf.only i hb with ⟨l, hl, e⟩ | h
          · rw [e]
            by_cases hlk : l < k
            · exact absurd ⟨l, hlk, e.trans (ih l hlk hl).symm⟩ hn
            · exact hs.anti k l (by omega) hl
          · exact (h k hk).le
    · by_cases hb : s k = ⊥
      · rw [hb]; exact bot_le
      · obtain ⟨i, hi⟩ := hf.has k hk hb
        have := le_peak (left f k) i
        rw [left_eq, if_neg, hi] at this
        · exact this
        · rintro ⟨j, hj, e⟩
          rw [ih j hj (by omega), hi] at e
          exact absurd (hs.strict j k hj hk hb) (by rw [e]; exact lt_irrefl _)

/-- Of a family all of whose values are in the list or below it, the rounds take every value that is in the list. -/
theorem pick_complete {n : ℕ} {s : ℕ → EReal} {f : ι → EReal} (hs : Heads n s)
    (only : ∀ i, f i ≠ ⊥ → (∃ k < n, f i = s k) ∨ ∀ k < n, f i < s k) {i : ι} {k : ℕ} (hk : k < n) (hi : f i = s k) :
    ∃ j < n, pick f j = s k := by
  by_contra hc
  push Not at hc
  have h1 := le_card_above (f := f) (n := n) (i := i) fun j hj e => hc j hj (e.symm.trans hi)
  have h2 : (Finset.univ.image f).filter (f i < ·) ⊆ (Finset.range k).image s := by
    intro v hv
    obtain ⟨hv, hlt⟩ := Finset.mem_filter.1 hv
    obtain ⟨a, -, rfl⟩ := Finset.mem_image.1 hv
    rcases only a (fun e => absurd hlt (by rw [e]; exact not_lt_bot)) with ⟨l, hl, e⟩ | h
    · refine Finset.mem_image.2 ⟨l, Finset.mem_range.2 ?_, e.symm⟩
      by_contra hlk
      have := hs.anti k l (by omega) hl
      rw [← e, ← hi] at this
      exact absurd hlt (not_lt.2 this)
    · exact absurd (h k hk) (not_lt.2 (by rw [← hi]; exact hlt.le))
  have h3 := (Finset.card_le_card h2).trans Finset.card_image_le
  rw [Finset.card_range] at h3
  omega

/-! ### A row in halves, a half in lanes -/

variable {H L J : Type*} [Fintype H] [Fintype L] [Fintype J]

/-- The values that `c` rounds take from each lane of a half. -/
def cands (c : ℕ) (f : L → J → EReal) : Fin c × L → EReal := fun p => pick (f p.2) p.1

/-- The lists of the halves together. -/
def lists (n c : ℕ) (f : H → L → J → EReal) : H × Fin n → EReal := fun p => pick (cands c (f p.1)) p.2

/-- What the lists hold are entries of the row, or minus infinity. -/
theorem lists_mem {n c : ℕ} (f : H → L → J → EReal) (p : H × Fin n) (hb : lists n c f p ≠ ⊥) :
    ∃ l j, f p.1 l j = lists n c f p := by
  obtain ⟨q, hq⟩ := (pick_mem (cands c (f p.1)) p.2).resolve_left hb
  obtain ⟨j, hj⟩ := (pick_mem (f p.1 q.2) q.1).resolve_left (by
    show cands c (f p.1) q ≠ ⊥
    rw [hq]; exact hb)
  exact ⟨q.2, j, hj.trans hq⟩

/-- Where the list is strict up to `k`, the halves' lanes hold at most `c` entries above its value at `k`, and one that
    has the value holds fewer: `c` rounds over each lane, `n` rounds over what they take, and round `k` over the halves'
    lists read the list at `k`. -/
theorem pick_lists {n c k : ℕ} {s : ℕ → EReal} {f : H → L → J → EReal} (hk : k < n) (hs : Heads (k + 1) s)
    (hf : Follows (k + 1) s fun p : H × L × J => f p.1 p.2.1 p.2.2) (hb : s k ≠ ⊥)
    (few : ∀ h l, (Finset.univ.filter fun j => s k < f h l j).card ≤ c)
    (held : ∃ h l, (∃ j, f h l j = s k) ∧ (Finset.univ.filter fun j => s k < f h l j).card < c) :
    pick (lists n c f) k = s k := by
  have onlyC : ∀ h p, cands c (f h) p ≠ ⊥ →
      (∃ q < k + 1, cands c (f h) p = s q) ∨ ∀ q < k + 1, cands c (f h) p < s q := by
    intro h p hb
    obtain ⟨j, hj⟩ := (pick_mem (f h p.2) p.1).resolve_left hb
    have := hf.only (h, p.2, j) (by show f h p.2 j ≠ ⊥; rw [hj]; exact hb)
    simp only [hj] at this
    exact this
  have taken : ∀ q < k + 1, ∃ h l, ∃ t < c, pick (f h l) t = s q := by
    intro q hq
    rcases Nat.lt_succ_iff_lt_or_eq.1 hq with hqk | rfl
    · have hlt := hs.strict q k hqk (by omega) hb
      obtain ⟨⟨h, l, j⟩, hj⟩ := hf.has q hq (ne_bot_of_gt hlt)
      dsimp only at hj
      refine ⟨h, l, ?_⟩
      by_contra hn
      push Not at hn
      have h1 := lt_card_atLeast (f := f h l) (n := c) (i := j) fun t ht e => hn t ht (e.symm.trans hj)
      refine absurd (h1.trans_le ((Finset.card_le_card ?_).trans (few h l))) (lt_irrefl _)
      intro a ha
      have ha := (Finset.mem_filter.1 ha).2
      rw [hj] at ha
      exact Finset.mem_filter.2 ⟨Finset.mem_univ _, hlt.trans_le ha⟩
    · obtain ⟨h, l, ⟨j, hj⟩, hc⟩ := held
      refine ⟨h, l, ?_⟩
      by_contra hn
      push Not at hn
      have h1 := le_card_above (f := f h l) (n := c) (i := j) fun t ht e => hn t ht (e.symm.trans hj)
      have h2 : (Finset.univ.image (f h l)).filter (f h l j < ·) ⊆ (Finset.univ.filter fun a => s q < f h l a).image (f h l) := by
        intro v hv
        obtain ⟨hv, hlt⟩ := Finset.mem_filter.1 hv
        obtain ⟨a, -, rfl⟩ := Finset.mem_image.1 hv
        exact Finset.mem_image.2 ⟨a, Finset.mem_filter.2 ⟨Finset.mem_univ _, by rw [← hj]; exact hlt⟩, rfl⟩
      exact absurd (h1.trans ((Finset.card_le_card h2).trans Finset.card_image_le)) (by omega)
  refine pick_eq hs ⟨fun q hq _ => ?_, fun p hp => ?_⟩ k (by omega)
  · obtain ⟨h, l, t, ht, e⟩ := taken q hq
    obtain ⟨u, hu, e'⟩ := pick_complete hs (onlyC h) (i := (⟨t, ht⟩, l)) hq e
    exact ⟨(h, ⟨u, by omega⟩), e'⟩
  · obtain ⟨l, j, e⟩ := lists_mem f p hp
    have := hf.only (p.1, l, j) (by show f p.1 l j ≠ ⊥; rw [e]; exact hp)
    simp only [e] at this
    exact this

/-- A family with no more than `k` different finite values: round `k` finds nothing. -/
theorem pick_bot {k : ℕ} {s : ℕ → EReal} {f : ι → EReal} (h : ∀ i, f i ≠ ⊥ → ∃ j < k, f i = s j) : pick f k = ⊥ := by
  by_contra hb
  obtain ⟨i, hi⟩ := (pick_mem f k).resolve_left hb
  have h1 := le_card_above (f := f) (n := k) (i := i) fun j hj e => pick_ne hj hb (hi.symm.trans e)
  have h2 : insert (f i) ((Finset.univ.image f).filter (f i < ·)) ⊆ (Finset.range k).image s := by
    have key : ∀ a, f a ≠ ⊥ → f a ∈ (Finset.range k).image s := fun a ha => by
      obtain ⟨j, hj, e⟩ := h a ha
      exact Finset.mem_image.2 ⟨j, Finset.mem_range.2 hj, e.symm⟩
    intro v hv
    rcases Finset.mem_insert.1 hv with rfl | hv
    · exact key i (by rw [hi]; exact hb)
    · obtain ⟨hv, hlt⟩ := Finset.mem_filter.1 hv
      obtain ⟨a, -, rfl⟩ := Finset.mem_image.1 hv
      exact key a (ne_bot_of_gt hlt)
  have h3 := (Finset.card_le_card h2).trans Finset.card_image_le
  rw [Finset.card_insert_of_notMem (by simp), Finset.card_range] at h3
  omega

end Cert.Rank

end
-- ==== Proof.Lanes.lean ====
/-
  The lane maxima of a block of rows, read over the extended reals.

  A lane of row `r` is the 64 columns `l, l + 128, …, l + 8064`.  The tree of maxima reads the greatest value of every
  lane, a wipe overwrites it in the lane, and so the `t`-th candidate array holds what round `t` takes from each lane.
-/
module

public import proofs.«01_k».proof.Proof.Top
public import proofs.«01_k».proof.Proof.Rank
public import Idealize.ShloMosaic.PureOps.Ideal.Laws
public import Idealize.ShloMosaic.Lib.ValueIdx
public import Idealize.ShloMosaic.Lib.Pipeline.Value

@[expose] public section

noncomputable section

namespace Cert.KernelIdeal.Top

open Idealize.ShloMosaic Idealize.SL.Sem
open Idealize.ShloMosaic.ValueIdx
open Cert.KernelIdeal.Gen Cert.Rank

theorem ninf_eq : (ninf : Ideal .f32) = (⊥ : EReal) := by
  show Ideal.ofBits .f32 0xFF800000#32 = ⊥
  simp [Ideal.ofBits, Ideal.ieee]

/-- The choice on an equality of two extended reals. -/
theorem select_oeq (x y a b : Ideal .f32) :
    Scalar.select (FloatOps.cmpf (F := Ideal) .oeq x y) a b = @ite EReal (x = y) (Classical.propDecidable _) a b := by
  show Scalar.select (BitVec.ofBool (decide (x = y))) a b = _
  by_cases h : x = y
  · simp [h, Scalar.select]
  · simp [h, Scalar.select]

/-! ### Halving -/

/-- Row `r` of an array as a function on the natural numbers. -/
def at2 {n m : ℕ} (v : FVec Ideal ⟨2, ![n, m]⟩ .f32) (r : Fin n) (c : ℕ) : EReal :=
  if h : c < m then v (ix2 r ⟨c, h⟩) else ⊥

theorem at2_of_lt {n m : ℕ} (v : FVec Ideal ⟨2, ![n, m]⟩ .f32) (r : Fin n) (c : ℕ) (h : c < m) :
    at2 v r c = v (ix2 r ⟨c, h⟩) := dif_pos h

/-- Entry `c` of the maximum of the two halves of a row. -/
theorem at2_half {n w : ℕ} (v : FVec Ideal ⟨2, ![n, w + w]⟩ .f32)
    (h0 : (⟨2, ![n, w + w]⟩ : Shape).Slices ![0, 0] ⟨2, ![n, w]⟩) (h1 : (⟨2, ![n, w + w]⟩ : Shape).Slices ![0, w] ⟨2, ![n, w]⟩)
    (r : Fin n) (c : ℕ) (hc : c < w) :
    at2 (maximumf (extractStridedSlice ⟨2, ![n, w]⟩ ![0, 0] v h0) (extractStridedSlice ⟨2, ![n, w]⟩ ![0, w] v h1)) r c
      = max (at2 v r c) (at2 v r (c + w)) := by
  rw [at2_of_lt _ _ _ hc, at2_of_lt _ _ _ (by omega : c < w + w), at2_of_lt _ _ _ (by omega : c + w < w + w), maximumf_apply]
  refine congrArg₂ max (congrArg v ?_) (congrArg v ?_)
  · funext a
    match a with
    | ⟨0, _⟩ => exact Fin.ext (Nat.zero_add _)
    | ⟨1, _⟩ => exact Fin.ext (Nat.zero_add _)
  · funext a
    match a with
    | ⟨0, _⟩ => exact Fin.ext (Nat.zero_add _)
    | ⟨1, _⟩ => exact Fin.ext (Nat.add_comm _ _)

/-- The entries a halved array stands for: column `c` is the greatest of `k` entries of `V`, one every `w`. -/
def Halved {n : ℕ} (w k : ℕ) (v : FVec Ideal ⟨2, ![n, w]⟩ .f32) (r : Fin n) (V : ℕ → EReal) : Prop :=
  ∀ c < w, at2 v r c = (Finset.range k).sup fun j => V (c + w * j)

theorem Halved.step {n w k : ℕ} {v : FVec Ideal ⟨2, ![n, w + w]⟩ .f32} {r : Fin n} {V : ℕ → EReal}
    (hv : Halved (w + w) k v r V)
    (h0 : (⟨2, ![n, w + w]⟩ : Shape).Slices ![0, 0] ⟨2, ![n, w]⟩) (h1 : (⟨2, ![n, w + w]⟩ : Shape).Slices ![0, w] ⟨2, ![n, w]⟩) :
    Halved w (k + k)
      (maximumf (extractStridedSlice ⟨2, ![n, w]⟩ ![0, 0] v h0) (extractStridedSlice ⟨2, ![n, w]⟩ ![0, w] v h1)) r V := by
  intro c hc
  rw [at2_half v h0 h1 r c hc, hv c (by omega), hv (c + w) (by omega)]
  refine le_antisymm (max_le (Finset.sup_le fun j hj => ?_) (Finset.sup_le fun j hj => ?_)) (Finset.sup_le fun j hj => ?_)
  · have hj := Finset.mem_range.1 hj
    have := Finset.le_sup (f := fun j => V (c + w * j)) (Finset.mem_range.2 (by omega : 2 * j < k + k))
    rwa [show c + w * (2 * j) = c + (w + w) * j by ring] at this
  · have hj := Finset.mem_range.1 hj
    have := Finset.le_sup (f := fun j => V (c + w * j)) (Finset.mem_range.2 (by omega : 2 * j + 1 < k + k))
    rwa [show c + w * (2 * j + 1) = c + w + (w + w) * j by ring] at this
  · have hj := Finset.mem_range.1 hj
    rcases Nat.even_or_odd' j with ⟨i, rfl | rfl⟩
    · refine le_max_of_le_left ?_
      have := Finset.le_sup (f := fun j => V (c + (w + w) * j)) (Finset.mem_range.2 (by omega : i < k))
      rwa [show c + (w + w) * i = c + w * (2 * i) by ring] at this
    · refine le_max_of_le_right ?_
      have := Finset.le_sup (f := fun j => V (c + w + (w + w) * j)) (Finset.mem_range.2 (by omega : i < k))
      rwa [show c + w + (w + w) * i = c + w * (2 * i + 1) by ring] at this

/-! ### The lanes of a row -/

/-- Lane `l` of row `r`. -/
def lane (v : FVec Ideal S128x8192 .f32) (r l : Fin 128) (j : Fin 64) : EReal :=
  v (ix2 r ⟨l.val + 128 * j.val, by have := l.isLt; have := j.isLt; omega⟩)

/-- The tree of maxima reads the greatest value of every lane. -/
theorem tree_apply (v : FVec Ideal S128x8192 .f32) (r l : Fin 128) : tree v (ix2 r l) = peak (lane v r l) := by
  have b : Halved (4096 + 4096) 1 v r (at2 v r) := fun c _ => by simp
  have b := b.step slices_S128x8192_o0_0_S128x4096 slices_S128x8192_o0_4096_S128x4096
  have b := Halved.step (w := 2048) b slices_S128x4096_o0_0_S128x2048 slices_S128x4096_o0_2048_S128x2048
  have b := Halved.step (w := 1024) b slices_S128x2048_o0_0_S128x1024 slices_S128x2048_o0_1024_S128x1024
  have b := Halved.step (w := 512) b slices_S128x1024_o0_0_S128x512 slices_S128x1024_o0_512_S128x512
  have b := Halved.step (w := 256) b slices_S128x512_o0_0_S128x256 slices_S128x512_o0_256_S128x256
  have b := Halved.step (w := 128) b slices_S128x256_o0_0_S128x128 slices_S128x256_o0_128_S128x128
  have e := b l.val l.isLt
  rw [at2_of_lt _ _ _ l.isLt] at e
  refine Eq.trans (show tree v (ix2 r l) = _ from e) ?_
  refine le_antisymm (Finset.sup_le fun j hj => ?_) (peak_le fun j => ?_)
  · have hj : j < 64 := Finset.mem_range.1 hj
    have := le_peak (lane v r l) ⟨j, hj⟩
    rwa [at2_of_lt _ _ _ (by have := l.isLt; omega : l.val + 128 * j < 8192)]
  · have := Finset.le_sup (f := fun j => at2 v r (l.val + 128 * j)) (Finset.mem_range.2 j.isLt)
    rwa [at2_of_lt _ _ _ (by have := l.isLt; have := j.isLt; omega : l.val + 128 * j.val < 8192)] at this

theorem cat64_apply (a : FVec Ideal S128x128 .f32) (r : Fin 128) (c : Fin 8192) :
    cat64 a (ix2 r c) = a (ix2 r ⟨c.val % 128, Nat.mod_lt _ (by decide)⟩) := by
  refine concatenate_replicate_apply (s₁ := S128x128) (t := S128x8192) 1 64 a _ rfl (ix2 r c) _ rfl ?_
  intro b hb
  match b with
  | ⟨0, _⟩ => rfl
  | ⟨1, _⟩ => exact absurd rfl hb

/-- A lane after `t` wipes is the lane before round `t`. -/
theorem lane_strip (v : FVec Ideal S128x8192 .f32) (r l : Fin 128) (t : ℕ) :
    lane (strip v t) r l = left (lane v r l) t := by
  induction t with
  | zero => rfl
  | succ t ih =>
    have e : left (lane v r l) (t + 1) = wipe (lane (strip v t) r l) := by rw [ih]; rfl
    rw [e]
    funext j
    have hl := l.isLt
    have hj := j.isLt
    show Scalar.select (FloatOps.cmpf (F := Ideal) .oeq (lane (strip v t) r l j) (cat64 (tree (strip v t)) (ix2 r _))) (ninf : Ideal .f32)
      (lane (strip v t) r l j) = _
    rw [select_oeq, cat64_apply, ninf_eq]
    have hm : (⟨(l.val + 128 * j.val) % 128, Nat.mod_lt _ (by decide)⟩ : Fin 128) = l := Fin.ext (by simp [Nat.mod_eq_of_lt hl])
    rw [hm, tree_apply]
    exact ite_eq_wipe (lane (strip v t) r l) j _

/-- The `t`-th candidate array holds what round `t` takes from each lane. -/
theorem cand_apply (v : FVec Ideal S128x8192 .f32) (t : ℕ) (r l : Fin 128) :
    cand v t (ix2 r l) = pick (lane v r l) t := by
  show tree (strip v t) (ix2 r l) = _
  rw [tree_apply, lane_strip]
  rfl

end Cert.KernelIdeal.Top

end
-- ==== Proof.Lists.lean ====
/-
  The two selections of the kernel, read over the extended reals.

  Both selections take, for every row, the greatest entry of several arrays, write it to the next column of a list and
  overwrite every entry equal to it.  Column `i` of the list is what round `i` takes from the row's entries.
-/
module

public import proofs.«01_k».proof.Proof.Lanes

@[expose] public section

noncomputable section

namespace Cert.KernelIdeal.Top

open Idealize.ShloMosaic Idealize.SL.Sem
open Idealize.ShloMosaic.ValueIdx
open Cert.KernelIdeal.Gen Cert.Rank

/-- The one column of a column vector. -/
abbrev one (r : Fin 128) : S128x1.Idx := ix2 r (0 : Fin 1)

/-- A fold of maxima from minus infinity is the greatest value. -/
theorem fold_max_eq {m : ℕ} (g : Fin m → EReal) : (Finset.univ : Finset (Fin m)).fold max ⊥ g = peak g := rfl

/-- The maximum of every row. -/
theorem rowMax_apply {m : ℕ} (a : FVec Ideal ⟨2, ![128, m]⟩ .f32) (h : (⟨2, ![128, m]⟩ : Shape).Reduces [1] S128)
    (h' : S128.ShapeCasts S128x1) (r : Fin 128) :
    shapeCast S128x1 (multiReduction .maximumf [1] S128 a 0xFF800000#32 h (.inl rfl) rfl) h' (one r)
      = peak fun l : Fin m => a (ix2 r l) := by
  rw [shapeCast_apply _ h' (one r) (ix1 r) (by simp [Shape.rowMajor_val_one, Shape.rowMajor_val_two])]
  refine (Ideal.multiReduction_maximumf_single a _ h (.inl rfl) rfl (ix1 r)).trans ?_
  refine (congrArg (fun b : EReal => (Finset.univ : Finset (Fin m)).fold max b (a ∘ h.lift (ix1 r))) ninf_eq).trans ?_
  refine (fold_max_eq (m := m) (a ∘ h.lift (ix1 r))).trans (congrArg peak (funext fun l => congrArg a ?_))
  funext d
  match d with
  | ⟨0, _⟩ => rfl
  | ⟨1, _⟩ => rfl

/-- A column vector repeated along the rows. -/
theorem spread_apply {m : ℕ} (x : FVec Ideal S128x1 .f32) (h : S128x1.Broadcasts ⟨2, ![128, m]⟩) (r : Fin 128) (l : Fin m) :
    broadcastTo ⟨2, ![128, m]⟩ x h (ix2 r l) = x (one r) := by
  refine broadcastTo_apply x h (ix2 r l) (one r) fun a => ?_
  match a with
  | ⟨0, _⟩ => rfl
  | ⟨1, _⟩ => rfl

/-- Column `i` of a list becomes `m`, the others stay. -/
theorem put_apply (i : ℕ) (hi : i < 32) (m : FVec Ideal S128x1 .f32) (o : FVec Ideal S128x32 .f32) (r : Fin 128) (c : Fin 32) :
    put i m o (ix2 r c) = if c.val = i then m (one r) else o (ix2 r c) := by
  have e : cols (ix2 r c) = BitVec.ofNat 32 c.val := iota_single_apply .tc S128x32 32 1 _ (ix2 r c)
  show Scalar.select (IntOp.cmpi .eq (cols (ix2 r c)) (BitVec.ofNat 32 i)) (broadcastTo S128x32 (shapeCast S128x1 m shapeCasts_S128x1_S128x1) broadcasts_S128x1_S128x32 (ix2 r c)) (o (ix2 r c)) = _
  rw [spread_apply, shapeCast_self, e]
  have hc := c.isLt
  by_cases h : c.val = i
  · rw [if_pos h, h]; simp [Scalar.select, IntOp.cmpi]
  · rw [if_neg h]
    have hne : BitVec.ofNat 32 c.val ≠ BitVec.ofNat 32 i := by
      intro e
      have := congrArg BitVec.toNat e
      simp only [BitVec.toNat_ofNat] at this
      omega
    simp [Scalar.select, IntOp.cmpi, beq_eq_false_iff_ne.2 hne]

/-- The entries equal to the row's `m` overwritten. -/
theorem wiped_apply {w : ℕ} (m : FVec Ideal S128x1 .f32) (a : FVec Ideal ⟨2, ![128, w]⟩ .f32)
    (h : S128x1.Broadcasts ⟨2, ![128, w]⟩) (r : Fin 128) (l : Fin w) :
    select (cmpf .oeq a (broadcastTo ⟨2, ![128, w]⟩ m h)) (broadcast ⟨2, ![128, w]⟩ ninf) a (ix2 r l)
      = @ite EReal (a (ix2 r l) = m (one r)) (Classical.propDecidable _) ⊥ (a (ix2 r l)) := by
  show Scalar.select (FloatOps.cmpf (F := Ideal) .oeq (a (ix2 r l)) (broadcastTo ⟨2, ![128, w]⟩ m h (ix2 r l)))
    (ninf : Ideal .f32) (a (ix2 r l)) = _
  rw [select_oeq, spread_apply, ninf_eq]

/-! ### Selecting out of the seven candidate arrays -/

/-- The entries of row `r` in seven arrays. -/
def famA (a : ℕ → FVec Ideal S128x128 .f32) (r : Fin 128) : Fin 7 × Fin 128 → EReal := fun p => a p.1 (ix2 r p.2)

theorem mxA_apply (a : ℕ → FVec Ideal S128x128 .f32) (r : Fin 128) : mxA a (one r) = peak (famA a r) := by
  have e : ∀ t : ℕ, rowMaxA (a t) (one r) = peak fun l : Fin 128 => a t (ix2 r l) := fun t => rowMax_apply (a t) _ _ r
  have key : ∀ (t : ℕ) (ht : t < 7), peak (fun l : Fin 128 => (a t (ix2 r l) : EReal)) ≤ peak (famA a r) := fun t ht =>
    peak_le fun l => le_peak (famA a r) (⟨t, ht⟩, l)
  have hm : mxA a (one r) = max (max (max (max (max (max (rowMaxA (a 0) (one r)) (rowMaxA (a 1) (one r)))
      (rowMaxA (a 2) (one r))) (rowMaxA (a 3) (one r))) (rowMaxA (a 4) (one r))) (rowMaxA (a 5) (one r)))
      (rowMaxA (a 6) (one r)) := rfl
  rw [hm]
  simp only [e]
  refine le_antisymm ?_ (peak_le ?_)
  · simp only [max_le_iff]
    exact ⟨⟨⟨⟨⟨⟨key 0 (by decide), key 1 (by decide)⟩, key 2 (by decide)⟩, key 3 (by decide)⟩, key 4 (by decide)⟩,
      key 5 (by decide)⟩, key 6 (by decide)⟩
  · rintro ⟨t, l⟩
    have hl : famA a r (t, l) ≤ peak fun l : Fin 128 => (a t.val (ix2 r l) : EReal) :=
      le_peak (fun l : Fin 128 => (a t.val (ix2 r l) : EReal)) l
    refine hl.trans ?_
    fin_cases t <;> simp only [le_max_iff, le_refl, true_or, or_true]

/-- The arrays after `k` selections hold the entries before round `k`. -/
theorem famA_arrA (c : ℕ → FVec Ideal S128x128 .f32) (r : Fin 128) (k : ℕ) : famA (arrA c k) r = left (famA c r) k := by
  induction k with
  | zero => rfl
  | succ k ih =>
    have e : left (famA c r) (k + 1) = wipe (famA (arrA c k) r) := by rw [ih]; rfl
    rw [e]
    funext p
    refine (wiped_apply (mxA (arrA c k)) (arrA c k p.1) broadcasts_S128x1_S128x128 r p.2).trans ?_
    rw [mxA_apply]
    exact ite_eq_wipe (famA (arrA c k) r) p _

theorem outsA_apply (c : ℕ → FVec Ideal S128x128 .f32) (r : Fin 128) (n : ℕ) (hn : n ≤ 32) (i : Fin 32) (hi : i.val < n) :
    outsA c n (ix2 r i) = pick (famA c r) i := by
  induction n with
  | zero => omega
  | succ n ih =>
    refine (put_apply n (by omega) (mxA (arrA c n)) (outsA c n) r i).trans ?_
    by_cases h : i.val = n
    · rw [if_pos h, mxA_apply, famA_arrA, h]; rfl
    · rw [if_neg h]; exact ih (by omega) (by omega)

/-- Column `i` of the candidate list: what round `i` takes from the lanes' candidates. -/
theorem chunkTop_apply (v : FVec Ideal S128x8192 .f32) (r : Fin 128) (i : Fin 32) :
    chunkTop v (ix2 r i) = pick (cands 7 (lane v r)) i := by
  refine (outsA_apply (cand v) r 32 le_rfl i i.isLt).trans (congrArg (fun f => pick f i.val) (funext fun p => ?_))
  exact cand_apply v p.1 r p.2

/-! ### Selecting out of two lists -/

/-- The entries of row `r` in two lists. -/
def famB (a : ℕ → FVec Ideal S128x32 .f32) (r : Fin 128) : Fin 2 × Fin 32 → EReal := fun p => a p.1 (ix2 r p.2)

theorem mxB_apply (a : ℕ → FVec Ideal S128x32 .f32) (r : Fin 128) : mxB a (one r) = peak (famB a r) := by
  have e : ∀ t : ℕ, rowMaxB (a t) (one r) = peak fun l : Fin 32 => a t (ix2 r l) := fun t => rowMax_apply (a t) _ _ r
  have key : ∀ (t : ℕ) (ht : t < 2), peak (fun l : Fin 32 => (a t (ix2 r l) : EReal)) ≤ peak (famB a r) := fun t ht =>
    peak_le fun l => le_peak (famB a r) (⟨t, ht⟩, l)
  have hm : mxB a (one r) = max (rowMaxB (a 0) (one r)) (rowMaxB (a 1) (one r)) := rfl
  rw [hm]
  simp only [e]
  refine le_antisymm (max_le (key 0 (by decide)) (key 1 (by decide))) (peak_le ?_)
  rintro ⟨t, l⟩
  have hl : famB a r (t, l) ≤ peak fun l : Fin 32 => (a t.val (ix2 r l) : EReal) :=
    le_peak (fun l : Fin 32 => (a t.val (ix2 r l) : EReal)) l
  refine hl.trans ?_
  fin_cases t <;> simp only [le_max_iff, le_refl, true_or, or_true]

theorem famB_arrB (c : ℕ → FVec Ideal S128x32 .f32) (r : Fin 128) (k : ℕ) : famB (arrB c k) r = left (famB c r) k := by
  induction k with
  | zero => rfl
  | succ k ih =>
    have e : left (famB c r) (k + 1) = wipe (famB (arrB c k) r) := by rw [ih]; rfl
    rw [e]
    funext p
    refine (wiped_apply (mxB (arrB c k)) (arrB c k p.1) broadcasts_S128x1_S128x32 r p.2).trans ?_
    rw [mxB_apply]
    exact ite_eq_wipe (famB (arrB c k) r) p _

theorem outsB_apply (c : ℕ → FVec Ideal S128x32 .f32) (r : Fin 128) (n : ℕ) (hn : n ≤ 32) (i : Fin 32) (hi : i.val < n) :
    outsB c n (ix2 r i) = pick (famB c r) i := by
  induction n with
  | zero => omega
  | succ n ih =>
    refine (put_apply n (by omega) (mxB (arrB c n)) (outsB c n) r i).trans ?_
    by_cases h : i.val = n
    · rw [if_pos h, mxB_apply, famB_arrB, h]; rfl
    · rw [if_neg h]; exact ih (by omega) (by omega)

/-- A list sent as one block and read back. -/
theorem pair_pay (x y : FVec Ideal S128x32 .f32) (t : Fin 2) :
    pair (F := Ideal) (k0_pay336 x) (k0_pay336 y) t.val = if t = 0 then x else y := by
  fin_cases t
  · exact shapeCast_shapeCast x shapeCasts_S128x32_S1x128x32 shapeCasts_S1x128x32_S128x32
  · exact shapeCast_shapeCast y shapeCasts_S128x32_S1x128x32 shapeCasts_S1x128x32_S128x32

/-- Column `i` of the merged list of the lists of two blocks: what round `i` takes from the two lists. -/
theorem merge_apply (v w : FVec Ideal S128x8192 .f32) (r : Fin 128) (i : Fin 32) :
    merge (F := Ideal) (k0_pay336 (chunkTop v)) (k0_pay336 (chunkTop w)) (ix2 r i)
      = pick (lists 32 7 fun h : Fin 2 => lane (if h = 0 then v else w) r) i := by
  refine (outsB_apply (pair (k0_pay336 (chunkTop v)) (k0_pay336 (chunkTop w))) r 32 le_rfl i i.isLt).trans
    (congrArg (fun f => pick f i.val) (funext fun p => ?_))
  refine (congrFun (pair_pay (chunkTop v) (chunkTop w) p.1) (ix2 r p.2)).trans ?_
  show _ = pick (cands 7 (lane (if p.1 = 0 then v else w) r)) p.2
  split <;> exact chunkTop_apply _ r p.2

end Cert.KernelIdeal.Top

end
-- ==== Proof.Sorted.lean ====
/-
  A row of the whole array in descending order.

  `order g` names the positions of a row `g` by descending value, equal values in the order of their positions.  `head g k`
  is the `k`-th value of the row in that order.
-/
module

public import proofs.«01_k».proof.Proof.Rank
public import Idealize.ShloMosaic.Lib.SortFacts
public import Idealize.ShloMosaic.Lib.ValueIdx

@[expose] public section

noncomputable section

namespace Cert.Rank

open Idealize.ShloMosaic Idealize.ShloMosaic.ValueIdx

variable {n : ℕ}

/-- Position `a` comes before position `b`: its value is greater. -/
def before (g : Fin n → EReal) (a b : Fin n) : Bool := decide (-(g a) < -(g b))

/-- The positions by descending value. -/
def order (g : Fin n → EReal) : Fin n → Fin n := sortedFrom (before g)

theorem before_iff (g : Fin n → EReal) (a b : Fin n) : before g a b = true ↔ g b < g a := by
  simp [before, EReal.neg_lt_neg_iff]

theorem before_false_iff (g : Fin n → EReal) (a b : Fin n) : before g a b = false ↔ g a ≤ g b := by
  rw [← not_lt, ← before_iff, Bool.not_eq_true]

/-- The values descend. -/
theorem order_anti (g : Fin n → EReal) {i j : Fin n} (h : i ≤ j) : g (order g j) ≤ g (order g i) := by
  rcases h.eq_or_lt with rfl | h
  · exact le_rfl
  · refine (before_false_iff g _ _).1 (sortedFrom_noInversion (before g) (before g) (fun a b h => ?_) (fun _ _ h => h)
      (fun a b c hab hbc => ?_) i j h)
    · exact (before_false_iff g _ _).2 ((before_iff g _ _).1 h).le
    · exact (before_false_iff g _ _).2 (((before_false_iff g _ _).1 hab).trans ((before_false_iff g _ _).1 hbc))

/-- The `k`-th value of a row of 16384 in descending order. -/
def head (g : Fin 16384 → EReal) (k : ℕ) : EReal := if h : k < 16384 then g (order g ⟨k, h⟩) else ⊥

theorem head_of_lt (g : Fin 16384 → EReal) {k : ℕ} (h : k < 16384) : head g k = g (order g ⟨k, h⟩) := dif_pos h

theorem head_anti (g : Fin 16384 → EReal) {j k : ℕ} (hjk : j ≤ k) (hk : k < 32) : head g k ≤ head g j := by
  rw [head_of_lt g (by omega), head_of_lt g (by omega)]
  exact order_anti g (by simpa using hjk)

/-- The values up to the `k`-th, where they descend strictly: a list of heads. -/
theorem heads_head (g : Fin 16384 → EReal) {k : ℕ} (hk : k < 32) (hd : ∀ j < k, head g (j + 1) < head g j) :
    Heads (k + 1) (head g) := by
  refine ⟨fun i j hij hj => head_anti g hij (by omega), fun i j hij hj _ => ?_⟩
  obtain ⟨j, rfl⟩ : ∃ j', j = j' + 1 := ⟨j - 1, by omega⟩
  exact (hd j (by omega)).trans_le (head_anti g (by omega) (by omega))

/-- A value of the row is among its first `n` or at most each of them. -/
theorem among (g : Fin 16384 → EReal) {n : ℕ} (hn : n ≤ 16384) (i : Fin 16384) :
    (∃ k < n, g i = head g k) ∨ ∀ k < 16384, k ≤ n → g i ≤ head g k := by
  obtain ⟨p, hp⟩ := sortedFrom_surjective (before g) i
  by_cases h : p.val < n
  · exact .inl ⟨p.val, h, by rw [head_of_lt g p.isLt]; exact congrArg g hp.symm⟩
  · refine .inr fun k hk hkn => ?_
    rw [head_of_lt g hk, ← hp]
    exact order_anti g (i := ⟨k, hk⟩) (j := p) (by simp only [Fin.le_def]; omega)

/-- The row follows the list of its first values. -/
theorem follows_head (g : Fin 16384 → EReal) {n : ℕ} (hn : n ≤ 16384) : Follows n (head g) g := by
  refine ⟨fun k hk _ => ⟨_, (head_of_lt g (by omega)).symm⟩, fun i _ => ?_⟩
  by_cases h : ∃ k < n, g i = head g k
  · exact .inl h
  · exact .inr fun k hk => lt_of_le_of_ne (((among g hn i).resolve_left h) k (by omega) hk.le) fun e => h ⟨k, hk, e⟩

/-- A family that reads every entry of another follows what the other follows. -/
theorem Follows.comp {ι κ : Type*} {m : ℕ} {s : ℕ → EReal} {g : κ → EReal} (h : Follows m s g) (e : ι → κ)
    (he : Function.Surjective e) : Follows m s (fun i => g (e i)) :=
  ⟨fun k hk hb => by
      obtain ⟨i, hi⟩ := h.has k hk hb
      obtain ⟨j, rfl⟩ := he i
      exact ⟨j, hi⟩,
    fun i hb => h.only (e i) hb⟩

/-- Row `r` of the whole array. -/
def wholeRow (X : FVec Ideal ⟨2, ![1024, 16384]⟩ .f32) (r : Fin 1024) : Fin 16384 → EReal := fun c => X (ix2 r c)

theorem along_ix2 {n0 n1 : ℕ} (r : Fin n0) (c k : Fin n1) : (ix2 r c : (⟨2, ![n0, n1]⟩ : Shape).Idx).along 1 k = ix2 r k := by
  funext a
  match a with
  | ⟨0, _⟩ => rfl
  | ⟨1, _⟩ => rfl

/-- The order by which a sort of the negated values compares, at the extended reals: zeros are made one and a value is
    never different from itself, so it is the order of the values. -/
theorem compared (x y : EReal) :
    FloatOps.cmpfTotal (F := Ideal) (φ := .f32) .lt
      (Scalar.select (FloatOps.cmpf (F := Ideal) (φ := .f32) .une x x) (FloatOps.ofBits (F := Ideal) .f32 0x7FC00000#32)
        (Scalar.select (FloatOps.cmpf (F := Ideal) (φ := .f32) .oeq x (FloatOps.ofBits (F := Ideal) .f32 0x00000000#32)) (FloatOps.ofBits (F := Ideal) .f32 0x00000000#32) x))
      (Scalar.select (FloatOps.cmpf (F := Ideal) (φ := .f32) .une y y) (FloatOps.ofBits (F := Ideal) .f32 0x7FC00000#32)
        (Scalar.select (FloatOps.cmpf (F := Ideal) (φ := .f32) .oeq y (FloatOps.ofBits (F := Ideal) .f32 0x00000000#32)) (FloatOps.ofBits (F := Ideal) .f32 0x00000000#32) y))
      = BitVec.ofBool (decide (x < y)) := by
  have h : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32)) (FloatOps.ofBits (F := Ideal) .f32 0x00000000#32) z) = z := by
    intro z
    have h1 : FloatOps.cmpf (F := Ideal) (φ := .f32) .une z z = 0#1 := by
      show BitVec.ofBool (decide (z ≠ z)) = 0#1
      simp
    rw [h1, select_zero]
    by_cases hz : z = FloatOps.ofBits (F := Ideal) .f32 0x00000000#32
    · have h2 : FloatOps.cmpf (F := Ideal) (φ := .f32) .oeq z (FloatOps.ofBits (F := Ideal) .f32 0x00000000#32) = 1#1 := by
        show BitVec.ofBool (decide (z = _)) = 1#1
        simp [hz]
      rw [h2, select_one, ← hz]
    · have h2 : FloatOps.cmpf (F := Ideal) (φ := .f32) .oeq z (FloatOps.ofBits (F := Ideal) .f32 0x00000000#32) = 0#1 := by
        show BitVec.ofBool (decide (z = _)) = 0#1
        simp only [hz, decide_false]; rfl
      rw [h2, select_zero]
  rw [h x, h y]
  rfl

end Cert.Rank

end
-- ==== Proof.MaskRead.lean ====
/-
  The mask, read over the extended reals.

  Where it is set at entry `k` of a row, the row's `k`-th value in descending order is minus infinity, or the values up to
  it descend strictly, each lane of each half holds at most seven entries above it, and a lane that has it holds at most
  six.
-/
module

public import proofs.«01_k».proof.Proof.Sorted
public import proofs.«01_k».proof.Proof.Gen.On_on
public import Idealize.ShloMosaic.Lib.ReduceAll
public import Idealize.ShloMosaic.Lib.IndicatorCount
public import Idealize.ShloMosaic.Lib.Pipeline.Value

@[expose] public section

noncomputable section

namespace Cert.On_on.Read

open Idealize.ShloMosaic Idealize.ShloMosaic.ValueIdx Idealize.SL.Sem
open Cert.On_on Cert.On_on.Gen Cert.Rank

/-- The first 32 values of every row. -/
def largest (X : FVec Ideal S1024x16384 .f32) : FVec Ideal S1024x32 .f32 :=
  Host.negf (extractStridedSlice S1024x32 ![0, 0] (fn_sort (F := Ideal) (Host.negf X)) slices_S1024x16384_S1024x32_0_0)

/-- Which of them are above the next. -/
def gaps (s : FVec Ideal S1024x32 .f32) : IVec S1024x31 1 :=
  cmpf .ogt (extractStridedSlice S1024x31 ![0, 0] s slices_S1024x32_S1024x31_0_0)
    (extractStridedSlice S1024x31 ![0, 1] s slices_S1024x32_S1024x31_0_1)

/-- Which gaps come after an entry. -/
def later : IVec S1x31x32 1 := cmpi .sge (iotaInDim S1x31x32 32 1) (iotaInDim S1x31x32 32 2)

/-- Which gaps are open or come after an entry. -/
def strict (s : FVec Ideal S1024x32 .f32) : IVec S1024x31x32 1 :=
  ori (broadcastInDim S1024x31x32 ![0, 1, 2] bcast_S1024x31x1_S1024x31x32_0_1_2
      (shapeCast S1024x31x1 (gaps s) shapeCasts_S1024x31_S1024x31x1))
    (broadcastInDim S1024x31x32 ![0, 1, 2] bcast_S1x31x32_S1024x31x32_0_1_2 later)

/-- The array with its rows cut into halves, lines and lanes, once for each of the 32 values. -/
def cut (X : FVec Ideal S1024x16384 .f32) : FVec Ideal S1024x2x64x128x32 .f32 :=
  broadcastInDim S1024x2x64x128x32 ![0, 1, 2, 3, 4] bcast_S1024x2x64x128x1_S1024x2x64x128x32_0_1_2_3_4
    (shapeCast S1024x2x64x128x1 X shapeCasts_S1024x16384_S1024x2x64x128x1)

/-- The 32 values at every entry of their row. -/
def value (s : FVec Ideal S1024x32 .f32) : FVec Ideal S1024x2x64x128x32 .f32 :=
  broadcastInDim S1024x2x64x128x32 ![0, 1, 2, 3, 4] bcast_S1024x1x1x1x32_S1024x2x64x128x32_0_1_2_3_4
    (shapeCast S1024x1x1x1x32 s shapeCasts_S1024x32_S1024x1x1x1x32)

/-- Which entries are above a value. -/
def over (X : FVec Ideal S1024x16384 .f32) (s : FVec Ideal S1024x32 .f32) : IVec S1024x2x64x128x32 1 :=
  cmpf .ogt (cut X) (value s)

/-- How many of them each lane holds. -/
def tally (p : IVec S1024x2x64x128x32 1) : IVec S1024x2x128x32 32 :=
  Host.reduce IntOp.addi (extui 32 p natLt_1_32) (constantI S_ 32 0#32) reducesTo_S1024x2x64x128x32_S1024x2x128x32_d2 h_S_

/-- Which lanes hold a value. -/
def held (X : FVec Ideal S1024x16384 .f32) (s : FVec Ideal S1024x32 .f32) : IVec S1024x2x128x32 1 :=
  Host.reduce IntOp.ori (cmpf .oeq (cut X) (value s)) (constantI S_ 1 0#1) reducesTo_S1024x2x64x128x32_S1024x2x128x32_d2 h_S_

/-- The bound of seven. -/
def seven : IVec S1024x2x128x32 32 := broadcastInDim S1024x2x128x32 ![] bcast_S_S1024x2x128x32 (constantI S_ 32 7#32)

theorem fn_eq (X : FVec Ideal S1024x16384 .f32) : fn (F := Ideal) X =
    ori (andi (Host.reduce IntOp.andi (strict (largest X)) (constantI S_ 1 1#1) reducesTo_S1024x31x32_S1024x32_d1 h_S_)
        (andi (Host.reduce IntOp.andi (cmpi .sle (tally (over X (largest X))) seven) (constantI S_ 1 1#1)
            reducesTo_S1024x2x128x32_S1024x32_d1_2 h_S_)
          (Host.reduce IntOp.ori (andi (held X (largest X)) (cmpi .slt (tally (over X (largest X))) seven)) (constantI S_ 1 0#1)
            reducesTo_S1024x2x128x32_S1024x32_d1_2 h_S_)))
      (cmpf .oeq (largest X) (broadcastInDim S1024x32 ![] bcast_S_S1024x32 (constant S_ .f32 0xFF800000#32))) := rfl

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem ofBool_one {p : Prop} [Decidable p] (h : BitVec.ofBool (decide p) = 1#1) : p := by
  by_contra hp
  simp [hp] at h

theorem negInf : (FloatOps.ofBits (F := Ideal) .f32 0xFF800000#32 : EReal) = ⊥ := by
  show Ideal.ofBits .f32 0xFF800000#32 = ⊥
  simp [Ideal.ofBits, Ideal.ieee]

theorem foldl_ori_one {ι : Type} (f : ι → BitVec 1) (l : List ι) :
    ∀ b, l.foldl (fun r n => IntOp.ori r (f n)) b = 1#1 → b = 1#1 ∨ ∃ n ∈ l, f n = 1#1 := by
  induction l with
  | nil => exact fun b h => .inl h
  | cons a l ih =>
    intro b h
    rcases ih _ h with h | ⟨n, hn, e⟩
    · rcases or_one h with h | h
      · exact .inl h
      · exact .inr ⟨a, List.mem_cons_self .., h⟩
    · exact .inr ⟨n, List.mem_cons_of_mem _ hn, e⟩

/-- A reduction by `or` from zero that gives one has met a one. -/
theorem reduce_ori_one {s t u : Shape} {axes : List (Fin s.rank)} (x : s.Idx → BitVec 1) (init : u.Idx → BitVec 1) (h : s.ReducesTo axes t)
    (hu : 0 < u.numel) (j : t.Idx) (e : Host.reduce IntOp.ori x init h hu j = 1#1) (h0 : init (Shape.Idx.first hu) = 0#1) :
    ∃ i, h.drop i = j ∧ x i = 1#1 := by
  rw [Host.reduce_eq_foldl] at e
  rcases foldl_ori_one x _ _ e with h1 | ⟨i, hi, hx⟩
  · rw [h0] at h1
    exact absurd h1 (by decide)
  · exact ⟨i, by simpa using (List.mem_filter.1 hi).2, hx⟩

theorem before_eq (X : FVec Ideal S1024x16384 .f32) (r : Fin 1024) (c : Fin 16384) (a b : Fin 16384) :
    (comparator_f32_d1 (F := Ideal) (Host.negf X ((ix2 r c : S1024x16384.Idx).along 1 a))
        (Host.negf X ((ix2 r c : S1024x16384.Idx).along 1 b)) == 1#1)
      = before (wholeRow X r) a b := by
  rw [along_ix2, along_ix2]
  refine (congrArg (· == 1#1) (compared (-(X (ix2 r a))) (-(X (ix2 r b))))).trans ?_
  show (BitVec.ofBool (before (wholeRow X r) a b) == 1#1) = _
  cases before (wholeRow X r) a b <;> rfl

theorem largest_apply (X : FVec Ideal S1024x16384 .f32) (r : Fin 1024) (k : Fin 32) :
    largest X (ix2 r k) = head (wholeRow X r) k := by
  have hk := k.isLt
  have hi : (fun a : Fin S1024x16384.rank => (⟨(![0, 0] : Fin 2 → ℕ) a + ((ix2 r k : S1024x32.Idx) a).val,
      Nat.lt_of_lt_of_le (Nat.add_lt_add_left ((ix2 r k : S1024x32.Idx) a).isLt _) (slices_S1024x16384_S1024x32_0_0.2 a)⟩ : Fin (S1024x16384.size a)))
      = (ix2 r ⟨k.val, by omega⟩ : S1024x16384.Idx) := by
    funext a
    match a with
    | ⟨0, _⟩ => exact Fin.ext (Nat.zero_add _)
    | ⟨1, _⟩ => exact Fin.ext (Nat.zero_add _)
  refine (congrArg (fun i => -(fn_sort (F := Ideal) (Host.negf X) i : EReal)) hi).trans ?_
  have e : fn_sort (F := Ideal) (Host.negf X) (ix2 r ⟨k.val, by omega⟩)
      = Host.negf X ((ix2 r ⟨k.val, by omega⟩ : S1024x16384.Idx).along 1 (sortedFrom (fun a b : Fin 16384 =>
        comparator_f32_d1 (F := Ideal) (Host.negf X ((ix2 r ⟨k.val, by omega⟩ : S1024x16384.Idx).along 1 a))
          (Host.negf X ((ix2 r ⟨k.val, by omega⟩ : S1024x16384.Idx).along 1 b)) == 1#1)
        (⟨k.val, by omega⟩ : Fin 16384))) := rfl
  rw [e, show (fun a b : Fin 16384 => comparator_f32_d1 (F := Ideal)
        (Host.negf X ((ix2 r ⟨k.val, by omega⟩ : S1024x16384.Idx).along 1 a))
        (Host.negf X ((ix2 r ⟨k.val, by omega⟩ : S1024x16384.Idx).along 1 b)) == 1#1)
      = before (wholeRow X r) from funext fun a => funext fun b => before_eq X r _ a b]
  refine (congrArg (fun i => -(Host.negf X i : EReal))
    (along_ix2 r (⟨k.val, by omega⟩ : Fin 16384) (order (wholeRow X r) ⟨k.val, by omega⟩))).trans ?_
  rw [head_of_lt _ (by omega)]
  exact neg_neg (X (ix2 r (order (wholeRow X r) ⟨k.val, by omega⟩)))

theorem later_imp (j : Fin 31) (k : Fin 32) (h : later (ix3 (0 : Fin 1) j k) = 1#1) : k.val ≤ j.val := by
  have hj := j.isLt
  have hk := k.isLt
  have h' : IntOp.cmpi .sge (BitVec.ofNat 32 j.val) (BitVec.ofNat 32 k.val) = 1#1 := h
  have e : ∀ n < 32, (BitVec.ofNat 32 n).toInt = (n : ℤ) := fun n hn => by
    rw [BitVec.toInt_ofNat', Int.bmod_eq_of_le] <;> omega
  have := ofBool_one (p := (k.val : ℤ) ≤ (j.val : ℤ)) (by rw [← e _ hk, ← e j.val (by omega)]; exact h')
  omega

/-- An open gap. -/
theorem gap (X : FVec Ideal S1024x16384 .f32) (r : Fin 1024) (j : Fin 31) (h : gaps (largest X) (ix2 r j) = 1#1) :
    head (wholeRow X r) (j.val + 1) < head (wholeRow X r) j := by
  have hj := j.isLt
  have e0 : extractStridedSlice S1024x31 ![0, 0] (largest X) slices_S1024x32_S1024x31_0_0 (ix2 r j)
      = head (wholeRow X r) j := by
    refine Eq.trans (congrArg (largest X) ?_) (largest_apply X r ⟨j.val, by omega⟩)
    funext a
    match a with
    | ⟨0, _⟩ => exact Fin.ext (Nat.zero_add _)
    | ⟨1, _⟩ => exact Fin.ext (Nat.zero_add _)
  have e1 : extractStridedSlice S1024x31 ![0, 1] (largest X) slices_S1024x32_S1024x31_0_1 (ix2 r j)
      = head (wholeRow X r) (j.val + 1) := by
    refine Eq.trans (congrArg (largest X) ?_) (largest_apply X r ⟨j.val + 1, by omega⟩)
    funext a
    match a with
    | ⟨0, _⟩ => exact Fin.ext (Nat.zero_add _)
    | ⟨1, _⟩ => exact Fin.ext (Nat.add_comm _ _)
  refine ofBool_one (p := _ < _) ?_
  rw [← e0, ← e1]
  exact h

/-- The values up to an entry descend strictly. -/
theorem descend (X : FVec Ideal S1024x16384 .f32) (r : Fin 1024) (k : Fin 32)
    (h : ∀ j : Fin 31, strict (largest X) (ix3 r j k) = 1#1) (j : ℕ) (hj : j < k.val) :
    head (wholeRow X r) (j + 1) < head (wholeRow X r) j := by
  have hk := k.isLt
  have h31 : j < 31 := by omega
  rcases or_one (h ⟨j, h31⟩) with h | h
  · rw [broadcastInDim_apply _ _ _ _ (ix3 r (⟨j, h31⟩ : Fin 31) (0 : Fin 1)) (fun a => by
      match a with
      | ⟨0, _⟩ => rfl
      | ⟨1, _⟩ => rfl
      | ⟨2, _⟩ => rfl), shapeCast_apply _ _ _ (ix2 r (⟨j, h31⟩ : Fin 31))
        (by simp [Shape.rowMajor_val_three, Shape.rowMajor_val_two])] at h
    exact gap X r ⟨j, h31⟩ h
  · rw [broadcastInDim_apply _ _ _ _ (ix3 (0 : Fin 1) (⟨j, h31⟩ : Fin 31) k) (fun a => by
      match a with
      | ⟨0, _⟩ => rfl
      | ⟨1, _⟩ => rfl
      | ⟨2, _⟩ => rfl)] at h
    exact absurd (later_imp ⟨j, h31⟩ k h) (by simp only; omega)

/-- Entry `128 j + l` of half `y`. -/
def place (y : Fin 2) (l : Fin 128) (j : Fin 64) : Fin 16384 :=
  ⟨8192 * y.val + (l.val + 128 * j.val), by have := y.isLt; have := l.isLt; have := j.isLt; omega⟩

theorem cut_apply (X : FVec Ideal S1024x16384 .f32) (r : Fin 1024) (y : Fin 2) (j : Fin 64) (l : Fin 128) (k : Fin 32) :
    cut X (ix5 r y j l k) = wholeRow X r (place y l j) := by
  refine (broadcastInDim_apply _ _ _ _ (ix5 r y j l (0 : Fin 1)) (fun a => by
    match a with
    | ⟨0, _⟩ => rfl
    | ⟨1, _⟩ => rfl
    | ⟨2, _⟩ => rfl
    | ⟨3, _⟩ => rfl
    | ⟨4, _⟩ => rfl)).trans ?_
  refine shapeCast_apply X _ (ix5 r y j l (0 : Fin 1)) (ix2 r (place y l j)) ?_
  simp only [Shape.rowMajor_val_two, Shape.rowMajor_val_five]
  show r.val * 16384 + (8192 * y.val + (l.val + 128 * j.val)) = (((r.val * 2 + y.val) * 64 + j.val) * 128 + l.val) * 1 + 0
  ring

theorem value_apply (X : FVec Ideal S1024x16384 .f32) (r : Fin 1024) (y : Fin 2) (j : Fin 64) (l : Fin 128) (k : Fin 32) :
    value (largest X) (ix5 r y j l k) = head (wholeRow X r) k := by
  refine (broadcastInDim_apply _ _ _ _ (ix5 r (0 : Fin 1) (0 : Fin 1) (0 : Fin 1) k) (fun a => by
    match a with
    | ⟨0, _⟩ => rfl
    | ⟨1, _⟩ => rfl
    | ⟨2, _⟩ => rfl
    | ⟨3, _⟩ => rfl
    | ⟨4, _⟩ => rfl)).trans ?_
  exact (shapeCast_apply _ _ _ (ix2 r k) (by simp [Shape.rowMajor_val_two, Shape.rowMajor_val_five])).trans (largest_apply X r k)

theorem over_iff (X : FVec Ideal S1024x16384 .f32) (r : Fin 1024) (y : Fin 2) (j : Fin 64) (l : Fin 128) (k : Fin 32) :
    over X (largest X) (ix5 r y j l k) = 1#1 ↔ head (wholeRow X r) k < wholeRow X r (place y l j) := by
  have e : over X (largest X) (ix5 r y j l k)
      = BitVec.ofBool (decide ((value (largest X) (ix5 r y j l k) : EReal) < cut X (ix5 r y j l k))) := rfl
  rw [e, value_apply, cut_apply]
  constructor
  · exact ofBool_one
  · intro h
    rw [decide_eq_true h]
    rfl

/-- How many entries of a lane are above the `k`-th value. -/
def above (X : FVec Ideal S1024x16384 .f32) (r : Fin 1024) (y : Fin 2) (l : Fin 128) (k : Fin 32) : ℕ :=
  (Finset.univ.filter fun j : Fin 64 => over X (largest X) (ix5 r y j l k) = 1#1).card

theorem above_le (X : FVec Ideal S1024x16384 .f32) (r : Fin 1024) (y : Fin 2) (l : Fin 128) (k : Fin 32) : above X r y l k ≤ 64 :=
  (Finset.card_le_univ _).trans (by simp)

theorem tally_apply (X : FVec Ideal S1024x16384 .f32) (r : Fin 1024) (y : Fin 2) (l : Fin 128) (k : Fin 32) :
    tally (over X (largest X)) (ix4 r y l k) = BitVec.ofNat 32 (above X r y l k) := by
  have hr : S1024x2x64x128x32.Reduces [2] S1024x2x128x32 := by decide
  refine (Host.reduce_eq_fold_single IntOp.addi _ _ _ hr _ _).trans ?_
  refine Eq.trans ?_ (IndicatorCount.fold_addi_setWidth_eq_card (w := 32) (fun j : Fin 64 => over X (largest X) (ix5 r y j l k)) Finset.univ)
  refine congrArg (fun f : Fin 64 → BitVec 32 => Finset.univ.fold IntOp.addi (0#32) f) (funext fun j => ?_)
  refine congrArg (fun i => (over X (largest X) i).setWidth 32) ?_
  funext a
  match a with
  | ⟨0, _⟩ => rfl
  | ⟨1, _⟩ => rfl
  | ⟨2, _⟩ => rfl
  | ⟨3, _⟩ => rfl
  | ⟨4, _⟩ => rfl

theorem small {n : ℕ} (hn : n ≤ 64) : (BitVec.ofNat 32 n).toInt = (n : ℤ) := by
  rw [BitVec.toInt_ofNat', Int.bmod_eq_of_le] <;> omega

theorem few (X : FVec Ideal S1024x16384 .f32) (r : Fin 1024) (y : Fin 2) (l : Fin 128) (k : Fin 32)
    (h : cmpi .sle (tally (over X (largest X))) seven (ix4 r y l k) = 1#1) : above X r y l k ≤ 7 := by
  have h' : IntOp.cmpi .sle (tally (over X (largest X)) (ix4 r y l k)) 7#32 = 1#1 := h
  rw [tally_apply] at h'
  have h7 : (7#32 : BitVec 32).toInt = 7 := rfl
  have := ofBool_one (p := (above X r y l k : ℤ) ≤ 7) (by rw [← small (above_le X r y l k), ← h7]; exact h')
  omega

theorem fewer (X : FVec Ideal S1024x16384 .f32) (r : Fin 1024) (y : Fin 2) (l : Fin 128) (k : Fin 32)
    (h : cmpi .slt (tally (over X (largest X))) seven (ix4 r y l k) = 1#1) : above X r y l k < 7 := by
  have h' : IntOp.cmpi .slt (tally (over X (largest X)) (ix4 r y l k)) 7#32 = 1#1 := h
  rw [tally_apply] at h'
  have h7 : (7#32 : BitVec 32).toInt = 7 := rfl
  have := ofBool_one (p := (above X r y l k : ℤ) < 7) (by rw [← small (above_le X r y l k), ← h7]; exact h')
  omega

theorem held_imp (X : FVec Ideal S1024x16384 .f32) (r : Fin 1024) (y : Fin 2) (l : Fin 128) (k : Fin 32)
    (h : held X (largest X) (ix4 r y l k) = 1#1) : ∃ j : Fin 64, wholeRow X r (place y l j) = head (wholeRow X r) k := by
  obtain ⟨i, hi, e⟩ := reduce_ori_one _ _ _ _ _ h rfl
  have v (b : Fin 4) (c : Fin 5) (hb) (hc) := (Shape.ReducesTo.drop_apply_val_of_eq
    reducesTo_S1024x2x64x128x32_S1024x2x128x32_d2 i b c hb hc).symm.trans (congrArg (fun q : S1024x2x128x32.Idx => (q b).val) hi)
  obtain ⟨j, e5⟩ : ∃ j : Fin 64, i = ix5 r y j l k := by
    refine ⟨i 2, funext fun a => ?_⟩
    match a with
    | ⟨0, _⟩ => exact Fin.ext (v 0 0 (by decide) (by decide))
    | ⟨1, _⟩ => exact Fin.ext (v 1 1 (by decide) (by decide))
    | ⟨2, _⟩ => rfl
    | ⟨3, _⟩ => exact Fin.ext (v 2 3 (by decide) (by decide))
    | ⟨4, _⟩ => exact Fin.ext (v 3 4 (by decide) (by decide))
  refine ⟨j, ?_⟩
  rw [← cut_apply X r y j l k, ← value_apply X r y j l k, ← e5]
  exact ofBool_one e

/-- What the mask says of an entry. -/
theorem mask_entry (X : FVec Ideal S1024x16384 .f32) (r : Fin 1024) (k : Fin 32) (h : fn (F := Ideal) X (ix2 r k) = 1#1) :
    head (wholeRow X r) k = ⊥ ∨ ((∀ j < k.val, head (wholeRow X r) (j + 1) < head (wholeRow X r) j)
      ∧ (∀ (y : Fin 2) (l : Fin 128), (Finset.univ.filter fun j : Fin 64 =>
          head (wholeRow X r) k < wholeRow X r (place y l j)).card ≤ 7)
      ∧ ∃ (y : Fin 2) (l : Fin 128), (∃ j : Fin 64, wholeRow X r (place y l j) = head (wholeRow X r) k)
          ∧ (Finset.univ.filter fun j : Fin 64 => head (wholeRow X r) k < wholeRow X r (place y l j)).card < 7) := by
  have ea : ∀ y l, above X r y l k = (Finset.univ.filter fun j : Fin 64 =>
      head (wholeRow X r) k < wholeRow X r (place y l j)).card := fun y l => by
    unfold above
    simp only [over_iff]
  rw [fn_eq] at h
  rcases or_one h with h | h
  · obtain ⟨h1, h23⟩ := and_one h
    obtain ⟨h2, h3⟩ := and_one h23
    refine .inr ⟨descend X r k fun j => Host.reduce_andi_eq_one _ _ _ _ _ h1 (ix3 r j k) ?_, fun y l => ?_, ?_⟩
    · rw [eq_ix2 (Shape.ReducesTo.drop _ _)]; rfl
    · rw [← ea]
      refine few X r y l k (Host.reduce_andi_eq_one _ _ _ _ _ h2 (ix4 r y l k) ?_)
      rw [eq_ix2 (Shape.ReducesTo.drop _ _)]; rfl
    · obtain ⟨i, hi, e⟩ := reduce_ori_one _ _ _ _ _ h3 rfl
      have v (b : Fin 2) (c : Fin 4) (hb) (hc) := (Shape.ReducesTo.drop_apply_val_of_eq
        reducesTo_S1024x2x128x32_S1024x32_d1_2 i b c hb hc).symm.trans (congrArg (fun q : S1024x32.Idx => (q b).val) hi)
      obtain ⟨y, l, e4⟩ : ∃ (y : Fin 2) (l : Fin 128), i = ix4 r y l k := by
        refine ⟨i 1, i 2, funext fun a => ?_⟩
        match a with
        | ⟨0, _⟩ => exact Fin.ext (v 0 0 (by decide) (by decide))
        | ⟨1, _⟩ => rfl
        | ⟨2, _⟩ => rfl
        | ⟨3, _⟩ => exact Fin.ext (v 1 3 (by decide) (by decide))
      rw [e4] at e
      obtain ⟨e1, e2⟩ := and_one e
      exact ⟨y, l, held_imp X r y l k e1, by rw [← ea]; exact fewer X r y l k e2⟩
  · refine .inl (ofBool_one (p := _ = _) ?_)
    rw [← largest_apply X r k, ← negInf]
    exact h

end Cert.On_on.Read

end
-- ==== Proof.RefRead.lean ====
/-
  The reference, read over the extended reals: entry `k` of row `r` is the `k`-th value of the row in descending order.
-/
module

public import proofs.«01_k».proof.Proof.Sorted
public import proofs.«01_k».proof.Proof.Gen.ReferenceIdeal
public import Idealize.ShloMosaic.Lib.ReduceAll
public import Idealize.ShloMosaic.Lib.Pipeline.Value

@[expose] public section

noncomputable section

namespace Cert.ReferenceIdeal.Read

open Idealize.ShloMosaic Idealize.ShloMosaic.ValueIdx Idealize.SL.Sem
open Cert.ReferenceIdeal Cert.ReferenceIdeal.Gen Cert.Rank

/-- The positions of the first 32 values of every row. -/
def firsts (X : FVec Ideal S1024x16384 .f32) : IVec S1024x32 32 :=
  extractStridedSlice S1024x32 ![0, 0]
    ((Host.sort2 S1024x16384 1 comparator_f32_i32_d1 (Host.negf X) (iotaInDim S1024x16384 32 1)).2) slices_S1024x16384_S1024x32_0_0

/-- Positions counted from the end made positions from the start, under one more axis. -/
def wrapped (I : IVec S1024x32 32) : IVec S1024x32x1 32 :=
  shapeCast S1024x32x1 (select (cmpi .slt I (broadcastInDim S1024x32 ![] bcast_S_S1024x32 (constantI S_ 32 0#32)))
    (addi I (broadcastInDim S1024x32 ![] bcast_S_S1024x32 (constantI S_ 32 16384#32))) I) shapeCasts_S1024x32_S1024x32x1

/-- Which positions lie in the row. -/
def inside (J : IVec S1024x32x1 32) : IVec S1024x32 1 :=
  Host.reduce IntOp.andi (andi (cmpi .sge J (broadcastInDim S1024x32x1 ![] bcast_S_S1024x32x1 (constantI S_ 32 0#32)))
    (cmpi .sle J (broadcastInDim S1024x32x1 ![0, 1, 2] bcast_S1x1x1_S1024x32x1_0_1_2
      (broadcastInDim S1x1x1 ![2] bcast_S1_S1x1x1_2 (constantI S1 32 16383#32)))))
    (constantI S_ 1 1#1) reducesTo_S1024x32x1_S1024x32_d2 h_S_

/-- The entries at given positions. -/
def looked (X : FVec Ideal S1024x16384 .f32) (J : IVec S1024x32x1 32) : FVec Ideal S1024x32 .f32 :=
  select (inside J) (Host.gather gather_S1024x16384_S1024x32x1_S1024x32_n_1_0_0_1_2_11 X J)
    (broadcastInDim S1024x32 ![] bcast_S_S1024x32 (constant S_ .f32 0x7FC00000#32))

/-- What the reference computes. -/
def refOut (X : FVec Ideal S1024x16384 .f32) : FVec Ideal S1024x32 .f32 := looked X (wrapped (firsts X))

/-- The position of the `k`-th value of row `r`. -/
def pos (X : FVec Ideal S1024x16384 .f32) (r : Fin 1024) (k : Fin 32) : Fin 16384 :=
  order (wholeRow X r) ⟨k.val, by have := k.isLt; omega⟩

theorem before_eq (X : FVec Ideal S1024x16384 .f32) (r : Fin 1024) (c : Fin 16384) (a b : Fin 16384) :
    (comparator_f32_i32_d1 (F := Ideal)
        (Host.negf X ((ix2 r c : S1024x16384.Idx).along 1 a), iotaInDim S1024x16384 32 1 ((ix2 r c : S1024x16384.Idx).along 1 a))
        (Host.negf X ((ix2 r c : S1024x16384.Idx).along 1 b), iotaInDim S1024x16384 32 1 ((ix2 r c : S1024x16384.Idx).along 1 b)) == 1#1)
      = before (wholeRow X r) a b := by
  rw [along_ix2, along_ix2]
  refine (congrArg (· == 1#1) (compared (-(X (ix2 r a))) (-(X (ix2 r b))))).trans ?_
  show (BitVec.ofBool (before (wholeRow X r) a b) == 1#1) = _
  cases before (wholeRow X r) a b <;> rfl

theorem iota_apply (r : Fin 1024) (q : Fin 16384) : iotaInDim S1024x16384 32 1 (ix2 r q) = BitVec.ofNat 32 q.val := rfl

theorem firsts_apply (X : FVec Ideal S1024x16384 .f32) (r : Fin 1024) (k : Fin 32) :
    firsts X (ix2 r k) = BitVec.ofNat 32 (pos X r k).val := by
  have hk := k.isLt
  have hi : (fun a : Fin S1024x16384.rank => (⟨(![0, 0] : Fin 2 → ℕ) a + ((ix2 r k : S1024x32.Idx) a).val,
      Nat.lt_of_lt_of_le (Nat.add_lt_add_left ((ix2 r k : S1024x32.Idx) a).isLt _) (slices_S1024x16384_S1024x32_0_0.2 a)⟩ : Fin (S1024x16384.size a)))
      = (ix2 r ⟨k.val, by omega⟩ : S1024x16384.Idx) := by
    funext a
    match a with
    | ⟨0, _⟩ => exact Fin.ext (Nat.zero_add _)
    | ⟨1, _⟩ => exact Fin.ext (Nat.zero_add _)
  refine (congrArg (Host.sort2 S1024x16384 1 comparator_f32_i32_d1 (Host.negf X) (iotaInDim S1024x16384 32 1)).2 hi).trans ?_
  have e : (Host.sort2 S1024x16384 1 comparator_f32_i32_d1 (Host.negf X) (iotaInDim S1024x16384 32 1)).2 (ix2 r ⟨k.val, by omega⟩)
      = iotaInDim S1024x16384 32 1 ((ix2 r ⟨k.val, by omega⟩ : S1024x16384.Idx).along 1 (sortedFrom (fun a b : Fin 16384 =>
        comparator_f32_i32_d1 (F := Ideal)
        (Host.negf X ((ix2 r ⟨k.val, by omega⟩ : S1024x16384.Idx).along 1 a), iotaInDim S1024x16384 32 1 ((ix2 r ⟨k.val, by omega⟩ : S1024x16384.Idx).along 1 a))
        (Host.negf X ((ix2 r ⟨k.val, by omega⟩ : S1024x16384.Idx).along 1 b), iotaInDim S1024x16384 32 1 ((ix2 r ⟨k.val, by omega⟩ : S1024x16384.Idx).along 1 b)) == 1#1)
        (⟨k.val, by omega⟩ : Fin 16384))) := rfl
  rw [e, show (fun a b : Fin 16384 => comparator_f32_i32_d1 (F := Ideal)
        (Host.negf X ((ix2 r ⟨k.val, by omega⟩ : S1024x16384.Idx).along 1 a), iotaInDim S1024x16384 32 1 ((ix2 r ⟨k.val, by omega⟩ : S1024x16384.Idx).along 1 a))
        (Host.negf X ((ix2 r ⟨k.val, by omega⟩ : S1024x16384.Idx).along 1 b), iotaInDim S1024x16384 32 1 ((ix2 r ⟨k.val, by omega⟩ : S1024x16384.Idx).along 1 b)) == 1#1)
      = before (wholeRow X r) from funext fun a => funext fun b => before_eq X r _ a b]
  exact (congrArg (iotaInDim S1024x16384 32 1) (along_ix2 r (⟨k.val, by omega⟩ : Fin 16384) (pos X r k))).trans (iota_apply r (pos X r k))

/-- Small numbers as 32-bit words compared with zero and with the last position. -/
theorem small (p : ℕ) (hp : p < 16384) : IntOp.cmpi .slt (BitVec.ofNat 32 p) 0#32 = 0#1
    ∧ IntOp.cmpi .sge (BitVec.ofNat 32 p) 0#32 = 1#1 ∧ IntOp.cmpi .sle (BitVec.ofNat 32 p) 16383#32 = 1#1
    ∧ (BitVec.ofNat 32 p).toInt.toNat = p := by
  have hi : (BitVec.ofNat 32 p).toInt = (p : ℤ) := by
    rw [BitVec.toInt_ofNat', Int.bmod_eq_of_le] <;> omega
  have h0 : (0#32 : BitVec 32).toInt = 0 := rfl
  have h1 : (16383#32 : BitVec 32).toInt = 16383 := rfl
  refine ⟨?_, ?_, ?_, ?_⟩
  · have : ¬ (p : ℤ) < 0 := by omega
    simp [IntOp.cmpi, BitVec.slt, hi, this]
  · simp [IntOp.cmpi, BitVec.sle, hi]
  · have : (p : ℤ) ≤ 16383 := by omega
    simp only [IntOp.cmpi, BitVec.sle, hi, h1, this, decide_true]; rfl
  · rw [hi]; rfl

/-- A position under one more axis, without it. -/
def flat (i : S1024x32x1.Idx) : S1024x32.Idx := ix2 (i 0) (i 1)

/-- Reading at positions that lie in the row. -/
theorem looked_apply (X : FVec Ideal S1024x16384 .f32) (I : IVec S1024x32 32) (p : S1024x32.Idx → Fin 16384)
    (hI : ∀ j, I j = BitVec.ofNat 32 (p j).val) (r : Fin 1024) (k : Fin 32) :
    looked X (wrapped I) (ix2 r k) = X (ix2 r (p (ix2 r k))) := by
  have hJ : ∀ i : S1024x32x1.Idx, wrapped I i = BitVec.ofNat 32 (p (flat i)).val := by
    intro i
    refine (shapeCast_apply _ shapeCasts_S1024x32_S1024x32x1 i (flat i) ?_).trans ?_
    · have h2 : (i 2).val = 0 := by have : (i 2).val < 1 := (i 2).isLt; omega
      simp [flat, Shape.rowMajor_val_two, Shape.rowMajor_val_three, h2]
    · show Scalar.select (IntOp.cmpi .slt (I (flat i)) 0#32) _ (I (flat i)) = _
      rw [hI, (small _ (p (flat i)).isLt).1, select_zero]
  have hin : inside (wrapped I) (ix2 r k) = 1#1 := by
    refine Host.reduce_andi_one _ _ _ _ _ rfl fun i => ?_
    show IntOp.andi (IntOp.cmpi .sge (wrapped I i) 0#32) (IntOp.cmpi .sle (wrapped I i) 16383#32) = 1#1
    have := small _ (p (flat i)).isLt
    rw [hJ, this.2.1, this.2.2.1]
    rfl
  unfold looked
  rw [select_apply, hin, select_one]
  unfold Host.gather
  refine congrArg X (funext fun a => Fin.ext ?_)
  set d := gather_S1024x16384_S1024x32x1_S1024x32_n_1_0_0_1_2_11 with hd
  show d.start (ix2 r k) (wrapped I) a + d.batchCoord (ix2 r k) a + d.offCoord (ix2 r k) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => by simp [hd, gather_S1024x16384_S1024x32x1_S1024x32_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    rw [hJ]
    have hlt := (p (ix2 r k)).isLt
    refine (congrArg (fun q => min q (16384 - 1)) (small _ (p _).isLt).2.2.2).trans ?_
    show min (p (ix2 r k)).val (16384 - 1) = (p (ix2 r k)).val
    omega

/-- Entry `k` of row `r` of the reference's result is the `k`-th value of the row. -/
theorem refOut_apply (X : FVec Ideal S1024x16384 .f32) (r : Fin 1024) (k : Fin 32) :
    refOut X (ix2 r k) = head (wholeRow X r) k := by
  refine (looked_apply X (firsts X) (fun j => pos X (j 0) (j 1)) (fun j => (congrArg (firsts X) (eq_ix2 j)).trans (firsts_apply X (j 0) (j 1))) r k).trans ?_
  rw [head_of_lt _ (by have := k.isLt; omega)]
  rfl

end Cert.ReferenceIdeal.Read

end
-- ==== Proof.Value.lean ====
/-
  The kernel's result against the reference's: where the mask is set at entry `k` of row `r`, that entry is on every
  device the `k`-th value of row `r` of the whole array in descending order.
-/
module

public import proofs.«01_k».proof.Proof.Launch
public import proofs.«01_k».proof.Proof.Lists
public import proofs.«01_k».proof.Proof.MaskRead
public import proofs.«01_k».proof.Proof.RefRead
public import Idealize.ShloMosaic.Lib.Layout

@[expose] public section

noncomputable section

namespace Cert.KernelIdeal.Run

open Cert.KernelIdeal Cert.KernelIdeal.Gen Cert.KernelIdeal.Top
open Idealize.ShloMosaic Idealize.ShloMosaic.ValueIdx Idealize.SL.Sem
open Idealize.ShloMosaic.TcCoe
open Cert.Rank Cert.On_on.Read

/-- The half of the rows that device `c` holds. -/
def half (c : Dev nD) : Fin 2 := ⟨c.val / 4 % 2, Nat.mod_lt _ (by decide)⟩

theorem half_par : ∀ (c : Dev nD) (y : Fin 2), y = half c ∨ y = half (par c) := by decide

theorem off_eq : ∀ (c : Dev nD), k0_off1 c 0 = 128 * (gi c).val ∧ k0_off1 c 1 = 0 := by decide

theorem block_eq : ∀ c : Dev nD, Layout.meshLin [2, 2, 4] c.val [] = 0 ∧ Layout.meshLin [2, 2, 4] c.val [1] = (half c).val := by decide

/-- A device's block of an array, an entry at a time. -/
theorem part_apply (X : FVec Ideal ⟨2, ![1024, 16384]⟩ .f32) (c : Dev nD) (i : S1024x8192.Idx) (a : Fin 1024) (b : Fin 16384)
    (h0 : a.val = (i 0).val) (h1 : b.val = 8192 * (half c).val + (i 1).val) :
    (Layout.blockN ⟨2, ![1024, 8192]⟩ ⟨2, ![1024, 16384]⟩ (Layout.meshBlock [2, 2, 4] ![[], [1]] c) X) i = X (ix2 a b) := by
  rw [Layout.blockN_apply]
  refine congrArg X (funext fun d => Fin.ext ?_)
  rw [Layout.TilesN.idx_val, Layout.meshBlock_val]
  match d with
  | ⟨0, _⟩ =>
    show Layout.meshLin [2, 2, 4] c.val [] * 1024 + (i 0).val = a.val
    rw [(block_eq c).1, h0, Nat.zero_mul, Nat.zero_add]
  | ⟨1, _⟩ =>
    show Layout.meshLin [2, 2, 4] c.val [1] * 8192 + (i 1).val = b.val
    rw [(block_eq c).2, h1, Nat.mul_comm]

variable (m : (ℓ : Loc nD τ sig) → Buf (Elt Ideal) ℓ)

/-- Row `r` of the rows of place `p`. -/
def rowOf (p : Fin 8) (r : Fin 128) : Fin 1024 := ⟨128 * p.val + r.val, by have := p.isLt; have := r.isLt; omega⟩

/-- Every device's block of the argument is its part of the whole array `X`. -/
def Parts (X : FVec Ideal ⟨2, ![1024, 16384]⟩ .f32) : Prop := ∀ c : Dev nD,
  m ((c.tc : Thread nD τ).loc main_arg0) = Layout.blockN ⟨2, ![1024, 8192]⟩ ⟨2, ![1024, 16384]⟩ (Layout.meshBlock [2, 2, 4] ![[], [1]] c) X

variable {m} {X : FVec Ideal ⟨2, ![1024, 16384]⟩ .f32}

/-- The rows a device reads, in the whole array. -/
theorem xrows_apply (hX : Parts m X) (c : Dev nD) (r : Fin 128) (q : Fin 8192) :
    xrows m c (ix2 r q) = X (ix2 (rowOf (gi c) r) ⟨8192 * (half c).val + q.val, by have := (half c).isLt; have := q.isLt; omega⟩) := by
  have e : xrows m c (ix2 r q) = m ((c.tc : Thread nD τ).loc main_arg0)
      ((Rect.unit (s := S1024x8192) (k0_off1 c) S128x8192.size (k0_off1_inb c)).emb (ix2 r q)) := rfl
  rw [e, hX c]
  have ev := fun a => ValueKit.rect_emb_unit_val (s := S1024x8192) (k0_off1 c) S128x8192.size (k0_off1_inb c) (ix2 r q) a
  refine part_apply X c _ _ _ ?_ ?_
  · rw [ev 0, (off_eq c).1]; rfl
  · rw [ev 1, (off_eq c).2, Nat.zero_add]

/-- A lane of the rows a device reads, in the whole array. -/
theorem lane_xrows (hX : Parts m X) (c : Dev nD) (r l : Fin 128) :
    lane (xrows m c) r l = fun j => wholeRow X (rowOf (gi c) r) (place (half c) l j) :=
  funext fun _ => xrows_apply hX c r _

/-- The entries of a row by half, lane and line. -/
theorem place_surjective (y : Fin 2 → Fin 2) (hy : Function.Surjective y) :
    Function.Surjective fun p : Fin 2 × Fin 128 × Fin 64 => place (y p.1) p.2.1 p.2.2 := by
  intro q
  have hq := q.isLt
  obtain ⟨h, hh⟩ := hy ⟨q.val / 8192, by omega⟩
  refine ⟨(h, ⟨q.val % 128, Nat.mod_lt _ (by decide)⟩, ⟨q.val % 8192 / 128, by omega⟩), Fin.ext ?_⟩
  simp only [place, hh]
  omega

/-- Row `r` of what device `d` merges: what the rounds read in the lanes of the row in the whole array. -/
theorem mg_apply (hX : Parts m X) (d : Dev nD) (r : Fin 128) (k : Fin 32) :
    mg m d (ix2 r k) = pick (lists 32 7 fun (h : Fin 2) l j =>
      wholeRow X (rowOf (gi d) r) (place (if h = 0 then half d else half (par d)) l j)) k := by
  have e : (fun h : Fin 2 => lane (if h = 0 then xrows m d else xrows m (par d)) r)
      = fun h l j => wholeRow X (rowOf (gi d) r) (place (if h = 0 then half d else half (par d)) l j) := by
    funext h l
    by_cases h0 : h = 0
    · simp only [if_pos h0]; exact lane_xrows hX d r l
    · simp only [if_neg h0]
      have := lane_xrows hX (par d) r l
      rwa [gi_par] at this
  refine (merge_apply (xrows m d) (xrows m (par d)) r k).trans ?_
  rw [e]

/-- What the rounds read in the lanes of a row, where the mask is set: the row's value. -/
theorem pick_row (r : Fin 1024) (k : Fin 32) (y : Fin 2 → Fin 2) (hy : Function.Surjective y)
    (h : Cert.On_on.fn (F := Ideal) X (ix2 r k) = 1#1) :
    pick (lists 32 7 fun (h : Fin 2) l j => wholeRow X r (place (y h) l j)) k = head (wholeRow X r) k := by
  have hk := k.isLt
  by_cases hb : head (wholeRow X r) k = ⊥
  · rw [hb]
    refine pick_bot (s := head (wholeRow X r)) fun p hp => ?_
    obtain ⟨l, j, e⟩ := lists_mem _ p hp
    rcases among (wholeRow X r) (n := k.val) (by omega) (place (y p.1) l j) with h | h
    · rw [← e]; exact h
    · refine absurd (le_bot_iff.1 ((h k (by omega) le_rfl).trans hb.le)) ?_
      rw [e]; exact hp
  · obtain ⟨hd, few, y', l, ⟨j, hj⟩, hl⟩ := (mask_entry X r k h).resolve_left hb
    obtain ⟨h', rfl⟩ := hy y'
    refine pick_lists k.isLt (heads_head _ hk hd)
      ((follows_head (wholeRow X r) (by omega)).comp _ (place_surjective y hy)) hb (fun h l => ?_) ⟨h', l, ⟨j, hj⟩, ?_⟩
    · convert few (y h) l
    · convert hl

theorem halves_surjective (d : Dev nD) : Function.Surjective fun h : Fin 2 => if h = 0 then half d else half (par d) := by
  intro y
  rcases half_par d y with h | h
  · exact ⟨0, (if_pos rfl).trans h.symm⟩
  · exact ⟨1, (if_neg (by decide)).trans h.symm⟩

theorem inRow_ix2 (r : Fin 1024) (k : Fin 32) : inRow (ix2 r k) = ix2 ⟨r.val % 128, Nat.mod_lt _ (by decide)⟩ k := by
  funext a
  match a with
  | ⟨0, _⟩ => rfl
  | ⟨1, _⟩ => rfl

theorem rowOf_row (d : Dev nD) (r : Fin 1024) (k : Fin 32) (h : gi d = blockRow (ix2 r k)) :
    rowOf (gi d) ⟨r.val % 128, Nat.mod_lt _ (by decide)⟩ = r := by
  rw [h]
  refine Fin.ext ?_
  show 128 * (r.val / 128) + r.val % 128 = r.val
  omega

/-- Where the mask is set, every device's result is the row's value. -/
theorem outAt_apply (hX : Parts m X) (c : Dev nD) (r : Fin 1024) (k : Fin 32)
    (h : Cert.On_on.fn (F := Ideal) X (ix2 r k) = 1#1) : outAt m c (ix2 r k) = head (wholeRow X r) k := by
  have e := rowOf_row (at' c (blockRow (ix2 r k))) r k (gi_at c _)
  have o : outAt m c (ix2 r k) = mg m (at' c (blockRow (ix2 r k))) (inRow (ix2 r k)) := rfl
  rw [o, inRow_ix2, mg_apply hX, e]
  exact pick_row r k _ (halves_surjective _) h

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_on
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts

/-- The printed kernel and the kernel for exact operations are one program, since no operation was replaced: its body, -/
theorem body_eq : Cert.Kernel.cc0_body (F := Bits) = Cert.KernelIdeal.cc0_body (F := Bits) := rfl

/-- the table with its body, -/
theorem defs₀_eq : Cert.Kernel.defs₀ (F := Bits) = Cert.KernelIdeal.defs₀ (F := Bits) :=
  congrArg Defs.onTc (funext fun l => match l with
    | 0 => funext fun ⟨_, _⟩ => rfl
    | ⟨_ + 1, h⟩ => absurd h (Nat.not_lt.2 (Nat.le_add_left _ _)))

/-- and the table with its launch. -/
theorem defs_eq : Cert.Kernel.defs (F := Bits) = Cert.KernelIdeal.defs (F := Bits) :=
  congrArg (Pipeline.defs Cert.Kernel.pcfgs) defs₀_eq

/-- The kernel as printed runs, leaves its argument and every counter as they were. -/
theorem frame_printed : Cert.quiescent_Kernel (hKernel := Cert.Kernel.Gen.facts) := fun m g _ => by
  rw [defs_eq]
  exact (θ_run _ _ _).mono (fun _ h => ⟨fun c => (h.1 c).2, h.2⟩) (Cert.KernelIdeal.Run.run_main (F := Bits) m g)

/-- So does the kernel at exact operations. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Run.run_main (F := Ideal) m g)

/-- So does the reference, which has no semaphore. -/
theorem frame_reference : Cert.quiescent_ReferenceIdeal (hReferenceIdeal := Cert.ReferenceIdeal.Gen.facts) := fun m g _ =>
  (θ_run _ _ _).mono (fun _ h => ⟨fun c => (h c).2, Idealize.ShloMosaic.sem_eq_zero_of_no_sems (by decide) _⟩) (Cert.ReferenceIdeal.Value.run (F := Ideal) m g)

/-- Where the mask is set, every device's result is the reference's. -/
theorem value : Cert.algebraic_KernelIdeal_ReferenceIdeal_on_on (hKernelIdeal := Cert.KernelIdeal.Gen.facts)
    (hReferenceIdeal := Cert.ReferenceIdeal.Gen.facts) (hOn_on := Cert.On_on.Gen.facts) := by
  intro m g m' g' _ hX
  refine ⟨Cert.ReferenceIdeal.Read.refOut (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨fun i hi => ?_, (h.1 c).2⟩) (Cert.KernelIdeal.Run.run_main (F := Ideal) m g)
    refine (congrFun (h.1 c).1 i).trans ?_
    rw [ValueIdx.eq_ix2 i] at hi ⊢
    exact (Cert.KernelIdeal.Run.outAt_apply hX c _ _ hi).trans (Cert.ReferenceIdeal.Read.refOut_apply _ _ _).symm
  · exact (θ_run _ _ _).mono (fun r h => ⟨fun i _ => congrFun (h 0).1 i, (h 0).2⟩) (Cert.ReferenceIdeal.Value.run (F := Ideal) m' g')

theorem claim : Cert.Claim := ⟨Cert.Kernel.Gen.facts, Cert.KernelIdeal.Gen.facts, Cert.ReferenceIdeal.Gen.facts,
  Cert.On_on.Gen.facts, frame_printed, frame_ideal, frame_reference, trivial, value⟩

end Cert.Proof

end
